-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S64x32x32768 : Shape := ⟨3, ![64, 32, 32768]⟩
abbrev S64x32 : Shape := ⟨2, ![64, 32]⟩
abbrev S_ : Shape := ⟨0, ![]⟩

class Facts : Prop where
  bcast_S_S64x32 : S_.BroadcastsInDim S64x32 (![] : Fin 0 → Fin S64x32.rank)
  reducesTo_S64x32_S_d0_1 : S64x32.ReducesTo [0, 1] S_
  h_S_ : 0 < S_.numel

variable [Facts]

def fn {F : FTy → Type} [FloatOps F] (main_arg0 : FVec F S64x32x32768 .f32) (main_arg1 : IVec S64x32 32) (main_arg2 : IVec S64x32 1) : IVec S_ 1 :=
  let main_c : IVec S_ 32 := constantI S_ 32 0#32
  let main_v0 : IVec S64x32 32 := broadcastInDim S64x32 ![] bcast_S_S64x32 main_c
  let main_v1 : IVec S64x32 1 := cmpi .sge main_arg1 main_v0
  let main_c_0 : IVec S_ 32 := constantI S_ 32 32768#32
  let main_v2 : IVec S64x32 32 := broadcastInDim S64x32 ![] bcast_S_S64x32 main_c_0
  let main_v3 : IVec S64x32 1 := cmpi .slt main_arg1 main_v2
  let main_v4 : IVec S64x32 1 := andi main_v1 main_v3
  let main_c_1 : IVec S_ 1 := constantI S_ 1 1#1
  let main_v5 : IVec S_ 1 := (fun x v => Host.reduce IntOp.andi x v reducesTo_S64x32_S_d0_1 h_S_) main_v4 main_c_1
  main_v5
-- ==== Kernel.lean ====
abbrev S64x32x32768 : Shape := ⟨3, ![64, 32, 32768]⟩
abbrev S64x32 : Shape := ⟨2, ![64, 32]⟩
abbrev S67108864 : Shape := ⟨1, ![67108864]⟩
abbrev S2048 : Shape := ⟨1, ![2048]⟩
abbrev S64 : Shape := ⟨1, ![64]⟩
abbrev S_ : Shape := ⟨0, ![]⟩
abbrev S16 : Shape := ⟨1, ![16]⟩
abbrev S16x128 : Shape := ⟨2, ![16, 128]⟩
abbrev S1x1 : Shape := ⟨2, ![1, 1]⟩
abbrev S1x16x128 : Shape := ⟨3, ![1, 16, 128]⟩
abbrev S1 : Shape := ⟨1, ![1]⟩
abbrev S1x1x1 : Shape := ⟨3, ![1, 1, 1]⟩

abbrev nBuf : Table → Nat
  | .hbm => 11
  | .local .tc .vmem => 2
  | .local .tc .smem => 1
  | .local .scVector .vmem => 3
  | _ => 0

abbrev bufTy : (tb : Table) → Fin (nBuf tb) → BufTy
  | .hbm, ⟨0, _⟩ => ⟨S64x32x32768, .f32⟩
  | .hbm, ⟨1, _⟩ => ⟨S64x32, .i32⟩
  | .hbm, ⟨2, _⟩ => ⟨S64x32, .i1⟩
  | .hbm, ⟨3, _⟩ => ⟨S67108864, .f32⟩
  | .hbm, ⟨4, _⟩ => ⟨S2048, .i32⟩
  | .hbm, ⟨5, _⟩ => ⟨S2048, .f32⟩
  | .hbm, ⟨6, _⟩ => ⟨S16x128, .i1⟩
  | .hbm, ⟨7, _⟩ => ⟨S16x128, .f32⟩
  | .hbm, ⟨8, _⟩ => ⟨S16x128, .f32⟩
  | .hbm, ⟨9, _⟩ => ⟨S1x1, .f32⟩
  | .hbm, ⟨10, _⟩ => ⟨S_, .f32⟩
  | .local .tc .vmem, ⟨0, _⟩ => ⟨S16x128, .f32⟩
  | .local .tc .vmem, ⟨1, _⟩ => ⟨S16x128, .f32⟩
  | .local .tc .smem, ⟨0, _⟩ => ⟨S1x1, .f32⟩
  | .local .scVector .vmem, ⟨0, _⟩ => ⟨S64, .i32⟩
  | .local .scVector .vmem, ⟨1, _⟩ => ⟨S64, .i32⟩
  | .local .scVector .vmem, ⟨2, _⟩ => ⟨S64, .f32⟩
  | _, _ => ⟨S64x32x32768, .f32⟩

abbrev bufScoped : (cs : CoreSpace) → Fin (nBuf (.local .tc cs)) → Bool
  | .vmem, ⟨0, _⟩ => true
  | .vmem, ⟨1, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
abbrev grid1 : Pipeline.Grid := .none

abbrev stage1_0 : Fin 1 → Memref sig .tc .vmem S16x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x32x32768 : Shape := ⟨3, ![64, 32, 32768]⟩
abbrev S64x32 : Shape := ⟨2, ![64, 32]⟩
abbrev S64x32x1 : Shape := ⟨3, ![64, 32, 1]⟩
abbrev S_ : Shape := ⟨0, ![]⟩
abbrev S64x32x1x1 : Shape := ⟨4, ![64, 32, 1, 1]⟩
abbrev S1 : Shape := ⟨1, ![1]⟩
abbrev S1x1x1x1 : Shape := ⟨4, ![1, 1, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S64x32x32768, .f32⟩
  | .hbm, ⟨1, _⟩ => ⟨S64x32, .i32⟩
  | .hbm, ⟨2, _⟩ => ⟨S64x32, .i1⟩
  | .hbm, ⟨3, _⟩ => ⟨S64x32x1, .i32⟩
  | .hbm, ⟨4, _⟩ => ⟨S_, .i32⟩
  | .hbm, ⟨5, _⟩ => ⟨S64x32x1, .i32⟩
  | .hbm, ⟨6, _⟩ => ⟨S64x32x1, .i1⟩
  | .hbm, ⟨7, _⟩ => ⟨S_, .i32⟩
  | .hbm, ⟨8, _⟩ => ⟨S64x32x1, .i32⟩
  | .hbm, ⟨9, _⟩ => ⟨S64x32x1, .i32⟩
  | .hbm, ⟨10, _⟩ => ⟨S64x32x1, .i32⟩
  | .hbm, ⟨11, _⟩ => ⟨S64x32x1x1, .i32⟩
  | .hbm, ⟨12, _⟩ => ⟨S1, .i32⟩
  | .hbm, ⟨13, _⟩ => ⟨S_, .i32⟩
  | .hbm, ⟨14, _⟩ => ⟨S64x32x1x1, .i32⟩
  | .hbm, ⟨15, _⟩ => ⟨S64x32x1x1, .i1⟩
  | .hbm, ⟨16, _⟩ => ⟨S1x1x1x1, .i32⟩
  | .hbm, ⟨17, _⟩ => ⟨S64x32x1x1, .i32⟩
  | .hbm, ⟨18, _⟩ => ⟨S64x32x1x1, .i1⟩
  | .hbm, ⟨19, _⟩ => ⟨S64x32x1x1, .i1⟩
  | .hbm, ⟨20, _⟩ => ⟨S_, .i1⟩
  | .hbm, ⟨21, _⟩ => ⟨S64x32x1, .i1⟩
  | .hbm, ⟨22, _⟩ => ⟨S64x32x1, .f32⟩
  | .hbm, ⟨23, _⟩ => ⟨S_, .f32⟩
  | .hbm, ⟨24, _⟩ => ⟨S64x32x1, .f32⟩
  | .hbm, ⟨25, _⟩ => ⟨S64x32x1, .f32⟩
  | .hbm, ⟨26, _⟩ => ⟨S64x32, .f32⟩
  | .hbm, ⟨27, _⟩ => ⟨S64x32, .f32⟩
  | .hbm, ⟨28, _⟩ => ⟨S64x32, .f32⟩
  | .hbm, ⟨29, _⟩ => ⟨S64x32, .i32⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S64x32, .f32⟩
  | .hbm, ⟨36, _⟩ => ⟨S64x32, .f32⟩
  | .hbm, ⟨37, _⟩ => ⟨S_, .f32⟩
  | .hbm, ⟨38, _⟩ => ⟨S_, .f32⟩
  | .hbm, ⟨39, _⟩ => ⟨S_, .f32⟩
  | _, _ => ⟨S64x32x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_c : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_v8 : Ref sig .tc := ⟨.hbm, 36, rfl⟩
abbrev main_cst_0 : Ref sig .tc := ⟨.hbm, 37, rfl⟩
abbrev main_v9 : Ref sig .tc := ⟨.hbm, 38, rfl⟩
abbrev main_v10 : Ref sig .tc := ⟨.hbm, 39, rfl⟩

abbrev nD : Nat := 1
abbrev τ : Topo := Topo.v7x

variable {F : FTy → Type} [FloatOps F]
-- ==== Proof.KernelIdealSetup.lean ====
/-
  The launch of the kernel as the library sees it, what memory the two parts of the kernel hand to one another, and the
  numbers that name a task's share of the work. 32 tasks (2 SparseCores of 16 vector subcores) each look up 64 of the
  2048 wanted probabilities; the TensorCore then averages their negative logarithms.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Writes
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

/-- The labels the SparseCore program's bodies run under: one TensorCore region beside them. -/
abbrev ΛP : Labels := Pipeline.Sig Λ₀ (Fin 1) fun p => (pcfgs (F := F) p).Adm
/-- The SparseCore launch. -/
abbrev K : SparseCore.Cfg τ sig (ΛP (F := F)) 1 := sc (F := F)
/-- The body table of everything but the SparseCore handshake. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The one call runs on both SparseCores. -/
theorem nCore_zero : (K (F := F)).nCore 0 = 2 := rfl
/-- The one call runs on sixteen vector subcores of each. -/
theorem nSub_zero : (K (F := F)).nSub 0 = 16 := rfl

/-- The handshake's semaphores are four different ones that no kernel scope allocates. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The handshakes' rounds, the TensorCore region's staging rounds, and the transfers' counters. -/
abbrev UU : Type := UH × (UR sig nD τ × Counters)

local notation "𝕄" => MT nD τ sig (HIx 1) (Elt F) ℕ UU ℕ

/-- The handshakes' part of the algebra. -/
abbrev EH : Emb UH (MT nD τ sig (HIx 1) (Elt F) ℕ UU ℕ) := embL
/-- The staging rounds' part of the algebra. -/
def EP : Emb (UR sig nD τ) (MT nD τ sig (HIx 1) (Elt F) ℕ UU ℕ) :=
  (Emb.inl.trans Emb.inr : Emb (UR sig nD τ) UU).trans
    (uEmb (nD := nD) (τ := τ) (sig := sig) (Ix := HIx 1) (Val := Elt F) (Name := ℕ) (U := UU) (Lvl := ℕ)).toEmb
instance EP_landsIn : (EP (F := F)).LandsIn (upEmb : UEmb _ 𝕄) := by unfold EP; infer_instance

/-! ## The buffers -/

/-- The flattened probabilities, the flattened targets and the looked-up probabilities, in device memory. -/
abbrev xLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2

local notation "xV" => (Memref.whole main_v0_scv : Memref sig Kind.scVector Space.hbm S67108864 EltTy.f32)
local notation "tV" => (Memref.whole main_v1_scv : Memref sig Kind.scVector Space.hbm S2048 EltTy.i32)
local notation "oV" => (Memref.whole main_v2_scv : Memref sig Kind.scVector Space.hbm S2048 EltTy.f32)

/-! ## Blocks -/

/-- The 2048 rows fall into 32 equal blocks. -/
theorem split32 : 32 ∣ S2048.size 0 := ⟨64, rfl⟩
/-- Block `n` of the 2048 rows: 64 of them. -/
abbrev blk (n : Fin 32) : Rect S2048 := Rect.part (s := S2048) (a₀ := 0) split32 n
/-- The elements of block `n`, in the targets and in the result. -/
abbrev tSet (n : Fin 32) : Finset S2048.Idx := ((tV).view.slice (blk n)).set
abbrev oSet (n : Fin 32) : Finset S2048.Idx := ((oV).view.slice (blk n)).set
/-- Task `n`'s share of the probabilities, which every task reads anywhere. -/
abbrev xq (n : Fin 32) : PosShare TreeShare := ShareLeaves.leaf 5 fullShare n

/-- A task's part of the targets is its block of 64 rows; -/
theorem tSet_eq (n : Fin 32) : tSet n = (blk n).set := by
  show ((View.whole (main_v1_scv : Ref sig .scVector)).slice (blk n)).set = _
  rw [View.set_slice]; exact Finset.map_refl
/-- and so is its part of the result. -/
theorem oSet_eq (n : Fin 32) : oSet n = (blk n).set := by
  show ((View.whole (main_v2_scv : Ref sig .scVector)).slice (blk n)).set = _
  rw [View.set_slice]; exact Finset.map_refl

/-- The number of the task on SparseCore `c`, vector subcore `s`. -/
def taskNo (c : Fin 2) (s : Fin 16) : Fin 32 := ⟨s.val * 2 + c.val, by omega⟩

/-- Task `n`'s share of the probabilities, at contents `f`; -/
abbrev xPts (d : Dev nD) (n : Fin 32) (f : Buf (Elt F) (xLoc d)) : sProp 𝕄 := xLoc d ↦{xq n} f
/-- its block of the targets; -/
abbrev tPts (d : Dev nD) (n : Fin 32) (f : Buf (Elt F) (tLoc d)) : sProp 𝕄 := tLoc d ↦[tSet n]{fullShare} f
/-- its block of the result. -/
abbrev oPts (d : Dev nD) (n : Fin 32) (f : Buf (Elt F) (oLoc d)) : sProp 𝕄 := oLoc d ↦[oSet n]{fullShare} f

/-! ## What is looked up -/

/-- Row `j`'s place in the flattened probabilities: `j * 32768 + target j`, in 32-bit words. -/
def place (t : S2048.Idx → BitVec 32) (j : S2048.Idx) : BitVec 32 :=
  BitVec.ofNat 32 (j 0).val * 32768#32 + t j

/-- Every target is one of the 32768 columns. -/
def InRange (t : S2048.Idx → BitVec 32) : Prop := ∀ j, (t j).toNat < 32768

/-- A place as a number. -/
theorem place_toNat {t : S2048.Idx → BitVec 32} (ht : InRange t) (j : S2048.Idx) :
    (place t j).toNat = (j 0).val * 32768 + (t j).toNat := by
  have h0 : (j 0).val < 2048 := (j 0).isLt
  have h1 := ht j
  unfold place
  rw [BitVec.toNat_add, BitVec.toNat_mul, BitVec.toNat_ofNat, BitVec.toNat_ofNat]
  omega

/-- A place is one of the 67108864 flattened probabilities. -/
theorem place_lt {t : S2048.Idx → BitVec 32} (ht : InRange t) (j : S2048.Idx) : (place t j).toNat < 67108864 := by
  have h0 : (j 0).val < 2048 := (j 0).isLt
  have h1 := ht j
  rw [place_toNat ht]; omega

/-- The looked-up probabilities: at row `j` the flattened probability at its place. -/
def looked (x : S67108864.Idx → Elt F .f32) (t : S2048.Idx → BitVec 32) (j : S2048.Idx) : Elt F .f32 :=
  x fun | 0 => ⟨(place t j).toNat % 67108864, Nat.mod_lt _ (by decide)⟩

end Cert.KernelIdeal.Lookup
-- ==== Proof.KernelIdealTile.lean ====
/-
  One task of the lookup: fetch 64 targets, work out their places in the flattened probabilities sixteen at a time,
  gather the 64 probabilities at those places, write them out.
-/
module

public import proofs.«01_k».proof.Proof.KernelIdealSetup

@[expose] public section

noncomputable section

namespace Cert.KernelIdeal.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole main_v0_scv : Memref sig Kind.scVector Space.hbm S67108864 EltTy.f32)
local notation "tV" => (Memref.whole main_v1_scv : Memref sig Kind.scVector Space.hbm S2048 EltTy.i32)
local notation "oV" => (Memref.whole main_v2_scv : Memref sig Kind.scVector Space.hbm S2048 EltTy.f32)
local notation "aV" => (Memref.whole cc0_scratch0 : Memref sig Kind.scVector Space.vmem S64 EltTy.i32)
local notation "bV" => (Memref.whole cc0_scratch1 : Memref sig Kind.scVector Space.vmem S64 EltTy.i32)
local notation "rV" => (Memref.whole cc0_scratch2 : Memref sig Kind.scVector Space.vmem S64 EltTy.f32)

/-! ## The task's subcore and its block -/

abbrev cV (L : grid0.Coords) : Fin τ.nSC := (L 0).castLE hcore0
abbrev jV (L : grid0.Coords) : Fin τ.nSub := (L 1).castLE hsub0
/-- The task's number among the 32. -/
abbrev nL (L : grid0.Coords) : Fin 32 := taskNo (L 0) (L 1)

/-- The task's 64 rows, as the program names them. -/
abbrev mine (L : grid0.Coords) : Rect S2048 := Rect.unit (s := S2048) (k0_off1 L) S64.size (k0_off1_inb L)
abbrev tMine (L : grid0.Coords) : Memref sig .scVector .hbm S64 .i32 := (tV).slice (mine L) (fun _ => rfl)
abbrev oMine (L : grid0.Coords) : Memref sig .scVector .hbm S64 .f32 := (oV).slice (mine L) (fun _ => rfl)
/-- All of the probabilities, as the gather names them. -/
abbrev xAll : Memref sig .scVector .hbm S67108864 .f32 := (xV).slice (Rect.unit (s := S67108864) ![0] S67108864.size inb_S67108864_S67108864_0) (fun _ => rfl)

/-- The rows the program names are the block of the task's number. -/
theorem mine_eq (L : grid0.Coords) : mine L = blk (nL L) := by
  unfold mine blk Rect.part Rect.block
  congr 1 <;> funext a
  · rw [k0_off1_eq]
    match a with
    | 0 => simp [Shape.partIx, Shape.partSize, nL, taskNo]; omega
  · match a with
    | 0 => simp [Shape.partSize]

/-- The targets a task copies in are its block of them; -/
theorem set_tMine (L : grid0.Coords) : (tMine L).view.set = tSet (nL L) := by
  show ((tV).view.slice (mine L)).set = ((tV).view.slice (blk (nL L))).set
  exact mine_eq L ▸ rfl
/-- the rows a task copies out to are its block of the result. -/
theorem set_oMine (L : grid0.Coords) : (oMine L).view.set = oSet (nL L) := by
  show ((oV).view.slice (mine L)).set = ((oV).view.slice (blk (nL L))).set
  exact mine_eq L ▸ rfl

section Spell

variable (d : Dev nD) (L : grid0.Coords)

/-- Holding the slice of the targets the program names is holding the task's block; -/
theorem pts_tMine (f : Buf (Elt F) (tLoc d)) :
    ((tMine L).view.loc (V d (cV L) (jV L)) ↦[(tMine L).view.set]{fullShare} f : sProp 𝕄) = tLoc d ↦[tSet (nL L)]{fullShare} f := by
  rw [set_tMine]
/-- and holding the slice of the result it names is holding the task's block of that. -/
theorem pts_oMine (f : Buf (Elt F) (oLoc d)) :
    ((oMine L).view.loc (V d (cV L) (jV L)) ↦[(oMine L).view.set]{fullShare} f : sProp 𝕄) = oLoc d ↦[oSet (nL L)]{fullShare} f := by
  rw [set_oMine]
/-- The probabilities, seen through the view the gather reads, are the whole array; -/
theorem pts_xV (q : PosShare TreeShare) (f : Buf (Elt F) (xLoc d)) :
    ((xV).view.loc (V d (cV L) (jV L)) ↦{q} f : sProp 𝕄) = xLoc d ↦{q} f := rfl
/-- the scratch for the targets is a whole buffer of the subcore, -/
theorem pts_aV (f : Buf (Elt F) ((V d (cV L) (jV L)).loc cc0_scratch0)) :
    ((aV).view.loc (V d (cV L) (jV L)) ↦{fullShare} f : sProp 𝕄) = (V d (cV L) (jV L)).loc cc0_scratch0 ↦{fullShare} f := rfl
/-- as is the scratch for the places -/
theorem pts_bV (f : Buf (Elt F) ((V d (cV L) (jV L)).loc cc0_scratch1)) :
    ((bV).view.loc (V d (cV L) (jV L)) ↦{fullShare} f : sProp 𝕄) = (V d (cV L) (jV L)).loc cc0_scratch1 ↦{fullShare} f := rfl
/-- and the scratch for the probabilities. -/
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

/-- The semaphores of the task: the gather's, the fetch's, the write-out's. -/
abbrev gCell (d : Dev nD) (c : Fin τ.nSC) (i : Fin τ.nSub) : GSem nD τ sig := (V d c i, .dma cc0_scratch3.sem)
abbrev fCell (d : Dev nD) (c : Fin τ.nSC) (i : Fin τ.nSub) : GSem nD τ sig := (V d c i, .dma cc0_scoped0.sem)
abbrev wCell (d : Dev nD) (c : Fin τ.nSC) (i : Fin τ.nSub) : GSem nD τ sig := (V d c i, .dma cc0_scoped1.sem)

/-- The subcore's own semaphores at zero are those three at zero and the rest at zero. -/
theorem ownSems0_V :
    (ownSems0 (V d (cV L) (jV L)) : sProp 𝕄)
      = iprop(semVal (gCell d (cV L) (jV L)) 0 ∗ semVal (fCell d (cV L) (jV L)) 0 ∗ semVal (wCell d (cV L) (jV L)) 0
          ∗ bigSep ((((ownCells (V d (cV L) (jV L))).erase (gCell d (cV L) (jV L))).erase (fCell d (cV L) (jV L))).erase (wCell d (cV L) (jV L))) fun g => semVal g 0) := by
  unfold SparseCore.Cfg.ownSems0
  rw [SparseCore.bigSep_erase' ((mem_ownCells (g := gCell d (cV L) (jV L))).mpr ⟨rfl, by
      show (SemLoc.dma cc0_scratch3.sem : SemLoc sig).isScoped .scVector = true; decide⟩),
    SparseCore.bigSep_erase' (Finset.mem_erase.mpr ⟨by simp [gCell, fCell]; decide, (mem_ownCells (g := fCell d (cV L) (jV L))).mpr ⟨rfl, by
      show (SemLoc.dma cc0_scoped0.sem : SemLoc sig).isScoped .scVector = true; decide⟩⟩),
    SparseCore.bigSep_erase' (Finset.mem_erase.mpr ⟨by simp [fCell, wCell]; decide, Finset.mem_erase.mpr ⟨by simp [gCell, wCell]; decide,
      (mem_ownCells (g := wCell d (cV L) (jV L))).mpr ⟨rfl, by show (SemLoc.dma cc0_scoped1.sem : SemLoc sig).isScoped .scVector = true; decide⟩⟩⟩)]

/-- The subcore's own buffers are the three scratch buffers at some contents and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

end Spell

variable [FloatOps F]

/-! ## The places a task works out -/

/-- The places of the task's 64 rows. -/
def placesOf (L : grid0.Coords) (t : S2048.Idx → BitVec 32) : S64.Idx → BitVec 32 := fun i => place t ((mine L).emb i)

/-- The row number a lane works with, in words and as a number. -/
theorem lane_word (a b k n : ℕ) :
    (BitVec.ofNat 32 a * 2#32 + BitVec.ofNat 32 b) * 64#32 + BitVec.ofNat 32 k + BitVec.ofNat 32 n
      = BitVec.ofNat 32 (128 * a + 64 * b + (k + n)) := by
  apply BitVec.eq_of_toNat_eq
  simp only [BitVec.toNat_add, BitVec.toNat_mul, BitVec.toNat_ofNat]
  omega

/-- A vector of lane numbers at lane `i`. -/
theorem iota_lane (i : S16.Idx) : iota .scVector S16 32 [0] iota_S16_d0_w32_scVector i = BitVec.ofNat 32 (i 0).val := by
  unfold iota; simp

section Lanes

variable (L : grid0.Coords) (v : Vec F S16 .i32) (i : S16.Idx)

/-- The word a lane of the group at row `k` of the task works out from its target `w`. -/
abbrev laneWord (k : ℕ) (w : BitVec 32) : BitVec 32 :=
  BitVec.ofNat 32 (128 * (L 1).val + 64 * (L 0).val + (k + (i 0).val)) * 32768#32 + w

/-- The first group of sixteen. -/
theorem pay3_apply : k0_pay3 L v i = laneWord L i 0 (v i) := by
  unfold k0_pay3
  simp only [shapeCast_self, addi, muli, broadcast]
  rw [iota_lane]
  exact congrArg (fun w => w * 32768#32 + v i) (lane_word (L 1).val (L 0).val 0 (i 0).val)
/-- The second. -/
theorem pay4_apply : k0_pay4 L v i = laneWord L i 16 (v i) := by
  unfold k0_pay4
  simp only [shapeCast_self, addi, muli, broadcast]
  rw [iota_lane]
  exact congrArg (fun w => w * 32768#32 + v i) (lane_word (L 1).val (L 0).val 16 (i 0).val)
/-- The third. -/
theorem pay5_apply : k0_pay1 (k0_pay5 L v) i = laneWord L i 32 (v i) := by
  unfold k0_pay1 k0_pay5
  simp only [shapeCast_self, addi, muli, broadcast]
  rw [iota_lane]
  exact congrArg (fun w => w * 32768#32 + v i) (lane_word (L 1).val (L 0).val 32 (i 0).val)
/-- The fourth. -/
theorem pay2_apply {b : BitVec 32} (hb : b = (BitVec.ofNat 32 (L 1).val * 2#32 + BitVec.ofNat 32 (L 0).val) * 64#32) :
    k0_pay2 b v i = laneWord L i 48 (v i) := by
  subst hb; unfold k0_pay2
  simp only [shapeCast_self, addi, muli, broadcast]
  rw [iota_lane]
  exact congrArg (fun w => w * 32768#32 + v i) (lane_word (L 1).val (L 0).val 48 (i 0).val)

end Lanes

/-- A row of a group, seen from the group, from the task and from the whole: the lane's word at its own target is the place. -/
theorem laneWord_place (L : grid0.Coords) (t : S2048.Idx → BitVec 32) (k : ℕ) (hk : ∀ a, (![k] : Fin 1 → ℕ) a + S16.size a ≤ S64.size a)
    (i : S16.Idx) :
    laneWord L i k (t ((mine L).emb ((Rect.unit (s := S64) ![k] S16.size hk).emb i)))
      = placesOf L t ((Rect.unit (s := S64) ![k] S16.size hk).emb i) := by
  unfold placesOf place laneWord
  congr 3
  show _ = (k0_off1 L) 0 + 1 * (k + 1 * (i 0).val)
  rw [k0_off1_eq]
  simp

/-- What the gather brings in row `z` of a task: the looked-up probability of that row. -/
theorem gathered (L : grid0.Coords) {t : S2048.Idx → BitVec 32} (ht : InRange t) (x : S67108864.Idx → Elt F .f32)
    (hn : S64.numel = S64.size gathers_S67108864_S64.axis')
    (hin : ∀ j, ((bV).view.read (Elt F) (placesOf L t) j).toNat < S67108864.size gathers_S67108864_S64.axis) (z : S64.Idx) :
    SparseCore.gatherPayload gathers_S67108864_S64 ((xAll).view.read (Elt F) x)
      (SparseCore.rows ((bV).view.read (Elt F) (placesOf L t)) hn hin) z = looked x t ((mine L).emb z) := by
  have hz : S64.rowMajor.symm ((z 0).cast hn.symm) = z := by
    rw [Equiv.symm_apply_eq]; exact Fin.ext (Shape.rowMajor_val_one z).symm
  unfold SparseCore.gatherPayload looked
  refine (View.read_apply _ _).trans ((cast_eq _ _).trans (congrArg x (funext fun a => ?_)))
  match a with
  | 0 =>
    refine Fin.ext ?_
    show 0 + 1 * ((placesOf L t (S64.rowMajor.symm ((z 0).cast hn.symm))).toNat) = (place t ((mine L).emb z)).toNat % 67108864
    rw [hz, Nat.mod_eq_of_lt (place_lt ht _)]
    show 0 + 1 * (place t ((mine L).emb z)).toNat = _
    omega

/-- The task's block of the result, written with a function's values on that block, is that block at that function. -/
theorem written (d : Dev nD) (L : grid0.Coords) (o : Buf (Elt F) (oLoc d)) (p : S64.Idx → Elt F .f32) (G : S2048.Idx → Elt F .f32)
    (h : ∀ z, p z = G ((mine L).emb z)) :
    ((oMine L).view.loc (V d (cV L) (jV L)) ↦[(oMine L).view.set]{fullShare} (oMine L).view.writes (Elt F) o [⟨Rect.whole S64, p⟩] : sProp 𝕄)
      = oPts d (nL L) G := by
  have e := pts_oMine (F := F) d L G
  refine Eq.trans ?_ e
  refine pointsTo_congr fun j hj => ?_
  obtain ⟨z, hz⟩ : ∃ z, (oMine L).view.emb z = j := by
    obtain ⟨z, -, hz⟩ := Finset.mem_map.mp hj; exact ⟨z, hz⟩
  subst hz
  have hr := congrFun (View.read_writes_whole (Val := Elt F) (oMine L).view o p) z
  exact ((View.read_apply _ _).trans (cast_eq _ _)).symm.trans (hr.trans (h z))

section Tile

variable (d : Dev nD) (L : grid0.Coords)
variable (x : Buf (Elt F) (xLoc d)) (t : Buf (Elt F) (tLoc d)) (o : Buf (Elt F) (oLoc d))

set_option maxHeartbeats 800000 in
/-- The task run on its subcore. -/
theorem tile_body (hF : (K (F := F)).Facts) (ht : InRange t) (O : CellTallies nD τ sig (HIx 1)) (W : Waits sig (HIx 1)) (hO : ∀ g, O g none = 0) :
    iprop(levAts (K (F := F)).L (K (F := F)).lev ∗ emp
        ∗ (xPts d (nL L) x ∗ tPts d (nL L) t ∗ oPts d (nL L) o)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L xV (Memref.isWhole_whole _) tV (Memref.isWhole_whole _) oV (Memref.isWhole_whole _)
            aV (Memref.isWhole_whole _) bV (Memref.isWhole_whole _) rV (Memref.isWhole_whole _) cc0_scratch3 cc0_scoped0 cc0_scoped1)
          fun _ => iprop((xPts d (nL L) x ∗ tPts d (nL L) t ∗ oPts d (nL L) (looked x t))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_body_eq_skeleton]; unfold cc0_body_skel; rw [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hx, Ht, Ho⟩, ⟨⟨%fa, Ha⟩, ⟨%fb, Hb⟩, ⟨%fr, Hr⟩, Hbufs⟩, ⟨HsemG, HsemF, HsemW, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tMine (F := F) d L _).symm) $$ Ht
  ihave Ho' := (Entails.of_eq (pts_oMine (F := F) d L _).symm) $$ Ho
  ihave Hx' := (Entails.of_eq (pts_xV (F := F) d L _ _).symm) $$ Hx
  ihave Ha' := (Entails.of_eq (pts_aV (F := F) d L _).symm) $$ Ha
  ihave Hb' := (Entails.of_eq (pts_bV (F := F) d L _).symm) $$ Hb
  ihave Hr' := (Entails.of_eq (pts_rV (F := F) d L _).symm) $$ Hr
  sl_exec
  have hb : (bV).view.writes (Elt F) (bV).view.junk (tile_body.sl.Hb'_4 d L t fa) = placesOf L t := by
    unfold tile_body.sl.Hb'_4
    have hrd : ∀ (k : ℕ) (hk : ∀ a, (![k] : Fin 1 → ℕ) a + S16.size a ≤ S64.size a) (i : S16.Idx),
        View.readAt (Elt F) (aV).view (Rect.unit (s := S64) ![k] S16.size hk).toLoadRect
          (View.write (Elt F) (aV).view fa (tile_body.sl.dma0 d L t) Finset.univ) i
          = t ((mine L).emb ((Rect.unit (s := S64) ![k] S16.size hk).emb i)) := by
      intro k hk i
      rw [View.write_whole_univ]
      exact (View.read_apply _ _).trans (cast_eq _ _)
    funext y
    refine (View.read_writes_apply_of_pieces (Val := Elt F) (bV).view (bV).view.junk (placesOf L t)
      [⟨Rect.unit (s := S64) ![48] S16.size inb_S64_S16_48, _⟩, ⟨Rect.unit (s := S64) ![32] S16.size inb_S64_S16_32, _⟩,
       ⟨Rect.unit (s := S64) ![16] S16.size inb_S64_S16_16, _⟩, ⟨Rect.unit (s := S64) ![0] S16.size inb_S64_S16_0, _⟩] ?_ y ?_)
    · intro p hp
      simp only [List.mem_cons, List.not_mem_nil, or_false] at hp
      rcases hp with rfl | rfl | rfl | rfl <;> intro i
      · exact (pay2_apply L _ i rfl).trans ((congrArg _ (hrd 48 _ i)).trans (laneWord_place L t 48 _ i))
      · exact (pay5_apply L _ i).trans ((congrArg _ (hrd 32 _ i)).trans (laneWord_place L t 32 _ i))
      · exact (pay4_apply L _ i).trans ((congrArg _ (hrd 16 _ i)).trans (laneWord_place L t 16 _ i))
      · exact (pay3_apply L _ i).trans ((congrArg _ (hrd 0 _ i)).trans (laneWord_place L t 0 _ i))
    · simp only [List.mem_cons, List.not_mem_nil, or_false, exists_eq_or_imp, exists_eq_left, Rect.mem_set_unit]
      have hy : (y 0).val < 64 := (y 0).isLt
      have key : ∀ k : ℕ, k ≤ (y 0).val ∧ (y 0).val < k + 16 →
          ∀ a : Fin 1, (![k] : Fin 1 → ℕ) a ≤ (y a).val ∧ (y a).val < (![k] : Fin 1 → ℕ) a + (![16] : Fin 1 → ℕ) a :=
        fun k h a => match a with | 0 => h
      rcases (by omega : (48 ≤ (y 0).val ∧ (y 0).val < 48 + 16) ∨ (32 ≤ (y 0).val ∧ (y 0).val < 32 + 16)
          ∨ (16 ≤ (y 0).val ∧ (y 0).val < 16 + 16) ∨ (0 ≤ (y 0).val ∧ (y 0).val < 0 + 16)) with h | h | h | h
      · exact .inl (key _ h)
      · exact .inr (.inl (key _ h))
      · exact .inr (.inr (.inl (key _ h)))
      · exact .inr (.inr (.inr (key _ h)))
  rw [hb]
  have hin : ∀ j, ((bV).view.read (Elt F) (placesOf L t) j).toNat < S67108864.size gathers_S67108864_S64.axis := fun j => by
    rw [show (bV).view.read (Elt F) (placesOf L t) j = placesOf L t j from (View.read_apply _ _).trans (cast_eq _ _)]
    exact place_lt ht _
  sl_exec
  have hval : ∀ z : S64.Idx, tile_body.sl.dma0_1 d L x t fr hin z = looked x t ((mine L).emb z) := by
    intro z
    unfold tile_body.sl.dma0_1 tile_body.sl.gather0
    refine Eq.trans ?_ (gathered L ht x rfl hin z)
    exact congrFun (View.read_writes_whole (Val := Elt F) (rV).view fr _) z
  have hout : (((oMine L).view.loc (V d (cV L) (jV L)) ↦[(oMine L).view.set]{fullShare}
      (oMine L).view.writes (Elt F) o [⟨Rect.whole S64, tile_body.sl.dma0_1 d L x t fr hin⟩] : sProp 𝕄))
      = oPts d (nL L) (looked x t) := written d L o _ (looked x t) hval
  sl_step
  isplitl [Hx' Ht' Ho']
  · isplitl [Hx']; · iexact Hx'
    isplitl [Ht']; · iapply (Entails.of_eq (pts_tMine (F := F) d L _)); iexact Ht'
    iapply (Entails.of_eq hout); iexact Ho'
  isplitl [Ha' Hb' Hr' Hbufs]
  · isplitl [Ha']; · iexists _; iexact Ha'
    isplitl [Hb']; · iexists _; iexact Hb'
    isplitl [Hr']; · iexists _; iexact Hr'
    iexact Hbufs
  isplitl [HsemG HsemF HsemW Hsems]
  · isplitl [HsemG]; · iexact HsemG
    isplitl [HsemF]; · iexact HsemF
    isplitl [HsemW]; · iexact HsemW
    iexact Hsems
  iexists _; isplitr
  swap; · iexact HO
  ipureintro; intro p hp
  simp only [Finset.mem_insert] at hp
  rcases hp with rfl | rfl | rfl | hp
  · exact .inr rfl
  · exact .inr rfl
  · exact .inr rfl
  · exact .inl hp

end Tile

end Cert.KernelIdeal.Lookup
-- ==== Proof.KernelIdealCall.lean ====
/-
  The SparseCore call as a whole: what the handshakes carry, that each task meets its obligation, and that the call takes the
  flattened probabilities, the targets and the result whole and gives them back with every wanted probability looked up.
-/
module

public import proofs.«01_k».proof.Proof.KernelIdealTile

@[expose] public section

noncomputable section

namespace Cert.KernelIdeal.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The task's obligation -/

/-- What task `n` is handed: its share of the probabilities, its targets, its block of the result; -/
abbrev given (d : Dev nD) (x : Buf (Elt F) (xLoc d)) (t : Buf (Elt F) (tLoc d)) (o : Buf (Elt F) (oLoc d)) (n : Fin 32) : sProp 𝕄 :=
  iprop(xPts d n x ∗ tPts d n t ∗ oPts d n o)

section Call

variable (x : (d : Dev nD) → Buf (Elt F) (xLoc d)) (t : (d : Dev nD) → Buf (Elt F) (tLoc d)) (o : (d : Dev nD) → Buf (Elt F) (oLoc d))

/-- What the call's handshakes carry: to each SparseCore what its sixteen tasks are handed, to each task its own, and
    back the same with the block of the result looked up. -/
def P : (K (F := F)).Pay (nD := nD) (Val := Elt F) (Name := ℕ) (U := UU) where
  st := fun q d c => match q with | 0 => bigSep Finset.univ fun i : Fin 16 => given d (x d) (t d) (o d) (taskNo c i)
  dn := fun q d c => match q with | 0 => bigSep Finset.univ fun i : Fin 16 => given d (x d) (t d) (looked (x d) (t d)) (taskNo c i)
  go := fun q d c i => match q with | 0 => given d (x d) (t d) (o d) (taskNo c i)
  td := fun q d c i => match q with | 0 => given d (x d) (t d) (looked (x d) (t d)) (taskNo c i)
  x := fun _ _ => iprop(emp)

instance P_storable : (P (F := F) x t o).IsStorable where
  st q d c := match q with
    | 0 => (inferInstance : BI.Storable (upEmb : UEmb _ 𝕄) (bigSep Finset.univ fun i : Fin 16 => given d (x d) (t d) (o d) (taskNo c i)))
  dn q d c := match q with
    | 0 => (inferInstance : BI.Storable (upEmb : UEmb _ 𝕄) (bigSep Finset.univ fun i : Fin 16 => given d (x d) (t d) (looked (x d) (t d)) (taskNo c i)))
  go q d c i := match q with
    | 0 => (inferInstance : BI.Storable (upEmb : UEmb _ 𝕄) (given d (x d) (t d) (o d) (taskNo c i)))
  td q d c i := match q with
    | 0 => (inferInstance : BI.Storable (upEmb : UEmb _ 𝕄) (given d (x d) (t d) (looked (x d) (t d)) (taskNo c i)))

/-- A SparseCore's operands are its tasks' as they stand, and so are its results. -/
theorem vecSplit : (K (F := F)).VecSplit' (P x t o) 0 := by
  intro d c
  show (bigSep Finset.univ fun i : Fin 16 => given d (x d) (t d) (o d) (taskNo c i)) ⊢ |={Set.univ}=> iprop(
      (bigSep Finset.univ fun i : Fin 16 => given d (x d) (t d) (o d) (taskNo c i))
      ∗ ((bigSep Finset.univ fun i : Fin 16 => given d (x d) (t d) (looked (x d) (t d)) (taskNo c i))
          -∗ (bigSep Finset.univ fun i : Fin 16 => given d (x d) (t d) (looked (x d) (t d)) (taskNo c i) : sProp 𝕄)))
  iintro H; imodintro
  isplitl [H]; · iexact H
  iintro H; iexact H

/-! ## The operands whole and in 32 pieces -/

/-- The tasks of the two SparseCores' sixteen subcores are the 32 numbers. -/
def taskEquiv : Fin 2 × Fin 16 ≃ Fin 32 where
  toFun p := taskNo p.1 p.2
  invFun n := (⟨n.val % 2, Nat.mod_lt _ (by decide)⟩, ⟨n.val / 2, by omega⟩)
  left_inv p := by
    obtain ⟨c, s⟩ := p
    simp only [taskNo, Prod.mk.injEq, Fin.ext_iff]; omega
  right_inv n := by simp only [taskNo, Fin.ext_iff]; omega

/-- A piece per SparseCore and subcore is a piece per number. -/
theorem bigSep_taskNo (Φ : Fin 32 → sProp 𝕄) :
    (bigSep Finset.univ fun c : Fin 2 => bigSep Finset.univ fun i : Fin 16 => Φ (taskNo c i)) = bigSep Finset.univ Φ := by
  rw [bigSep_univ_equiv taskEquiv Φ, bigSep_univ_prod]; rfl

/-- Different tasks have disjoint blocks of the targets -/
theorem tSet_disjoint : ∀ i ∈ (Finset.univ : Finset (Fin 32)), ∀ j ∈ (Finset.univ : Finset (Fin 32)), i ≠ j → Disjoint (tSet i) (tSet j) :=
  fun i _ j _ h => by rw [tSet_eq, tSet_eq]; exact Rect.part_disjoint split32 h
/-- and disjoint blocks of the result. -/
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint split32 h
/-- The tasks' blocks of the targets are all of them, -/
theorem tSet_cover : (Finset.univ : Finset (Fin 32)).biUnion tSet = Finset.univ :=
  (Finset.biUnion_congr rfl fun i _ => tSet_eq i).trans (Rect.biUnion_part split32)
/-- and so are their blocks of the result. -/
theorem oSet_cover : (Finset.univ : Finset (Fin 32)).biUnion oSet = Finset.univ :=
  (Finset.biUnion_congr rfl fun i _ => oSet_eq i).trans (Rect.biUnion_part split32)

/-- The targets whole are their 32 blocks; -/
theorem tPts_blocks (d : Dev nD) (f : Buf (Elt F) (tLoc d)) :
    (tLoc d ↦{fullShare} f : sProp 𝕄) = bigSep Finset.univ fun n : Fin 32 => tPts d n f := by
  rw [← pointsTo_biUnion Finset.univ (ℓ := tLoc d) tSet tSet_disjoint, tSet_cover]; try rfl
/-- the result whole is its 32 blocks; -/
theorem oPts_blocks (d : Dev nD) (f : Buf (Elt F) (oLoc d)) :
    (oLoc d ↦{fullShare} f : sProp 𝕄) = bigSep Finset.univ fun n : Fin 32 => oPts d n f := by
  rw [← pointsTo_biUnion Finset.univ (ℓ := oLoc d) oSet oSet_disjoint, oSet_cover]; try rfl
/-- the probabilities outright are the 32 shares of them. -/
theorem xPts_shares (d : Dev nD) (f : Buf (Elt F) (xLoc d)) :
    (xLoc d ↦{fullShare} f : sProp 𝕄) = bigSep Finset.univ fun n : Fin 32 => xPts d n f :=
  ShareLeaves.pointsTo_leaves Finset.univ f 5 fullShare

/-- The three arrays whole are what the 32 tasks are handed. -/
theorem given_all (d : Dev nD) (x : Buf (Elt F) (xLoc d)) (t : Buf (Elt F) (tLoc d)) (o : Buf (Elt F) (oLoc d)) :
    (bigSep Finset.univ fun c : Fin 2 => bigSep Finset.univ fun i : Fin 16 => given d x t o (taskNo c i))
      = (iprop((xLoc d ↦{fullShare} x) ∗ (tLoc d ↦{fullShare} t) ∗ (oLoc d ↦{fullShare} o)) : sProp 𝕄) := by
  rw [bigSep_taskNo (given d x t o), bigSep_sep', bigSep_sep', ← xPts_shares, ← tPts_blocks, ← oPts_blocks]

/-- The call's operands are the three arrays; -/
theorem st_all (d : Dev nD) : (bigSep Finset.univ fun c : Fin ((K (F := F)).nCore 0) => (P x t o).st 0 d c)
    = (iprop((xLoc d ↦{fullShare} x d) ∗ (tLoc d ↦{fullShare} t d) ∗ (oLoc d ↦{fullShare} o d)) : sProp 𝕄) := given_all d (x d) (t d) (o d)
/-- its results are the three arrays with every wanted probability looked up. -/
theorem dn_all (d : Dev nD) : (bigSep Finset.univ fun c : Fin ((K (F := F)).nCore 0) => (P x t o).dn 0 d c)
    = (iprop((xLoc d ↦{fullShare} x d) ∗ (tLoc d ↦{fullShare} t d) ∗ (oLoc d ↦{fullShare} (looked (x d) (t d) : Buf (Elt F) (oLoc d)))) : sProp 𝕄) :=
  given_all d (x d) (t d) (looked (x d) (t d))

/-! ## Each task meets its obligation -/

variable [FloatOps F]

/-- A task's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The body a vector subcore runs at the call. -/
theorem defs₀_vector (c : Fin τ.nSC) (s : Fin τ.nSub) :
    defs₀ (F := F) (.scVector c s) 0 ()
      = SparseCore.onTile hcore0 hsub0 (fun c s => cc0_body (coordsV c s)
          (Memref.whole main_v0_scv) (Memref.isWhole_whole _) (Memref.whole main_v1_scv) (Memref.isWhole_whole _)
          (Memref.whole main_v2_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scoped0 cc0_scoped1) ⟨⟩ c s := rfl

omit [FloatOps F] in
/-- A task records no wait but at the plain index. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call, from what it is handed, runs to what it hands back. -/
theorem tileObl (hF : (K (F := F)).Facts) (ht : ∀ d, InRange (t d)) : (K (F := F)).TileObl (D (F := F)) 𝒱 (P x t o) v₀ 0 := by
  intro d c i O W hO _ _
  simp only [show (P x t o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (x d) (t d) (o d) hF (ht d) O W hO).trans (wp_mono frame _ _ fun _ => obl_post)

end Call

end Cert.KernelIdeal.Lookup
-- ==== Proof.KernelIdealTensorCore.lean ====
/-
  The TensorCore call: from the looked-up probabilities and the mask as numbers it leaves the average of the negative
  logarithms in its one-word result, and records no wait but its own transfers'.
-/
module

public import proofs.«01_k».proof.Proof.KernelIdealCall
public import proofs.«01_k».proof.Proof.Gen.KernelIdeal.Points
public import Idealize.ShloMosaic.Lib.Pipeline.RegionArrays
public import Idealize.ShloMosaic.Lib.Pipeline.ValueKit

@[expose] public section

noncomputable section

namespace Cert.KernelIdeal.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Pipeline (Dat BodyObligation)

/-! ## The body -/

/-- The one rectangle the body loads, all 16 rows of 128; -/
abbrev allRows : Rect S16x128 := Rect.unit (s := S16x128) ![0, 0] S16x128.size inb_S16x128_S16x128_0_0
/-- the one it stores, the result's single word. -/
abbrev oneWord : Rect S1x1 := Rect.unit (s := S1x1) ![0, 0] S1x1.size inb_S1x1_S1x1_0_0

/-- Reading all 16 rows of a buffer reads its contents. -/
theorem ld_allRows (f : Vec F S16x128 .f32) : View.ld f allRows = f := View.ld_unit_zero (by decide) _ f

/-- The body on whole staging buffers: the probabilities and the mask stay, the result gets the average. -/
theorem loss_body (d : Dev nD) (E : Set ℕ) (a0 : Memref sig .tc .vmem S16x128 .f32) (h0 : a0.IsWhole) (a1 : Memref sig .tc .vmem S16x128 .f32) (h1 : a1.IsWhole)
    (a2 : Memref sig .tc .smem S1x1 .f32) (h2 : a2.IsWhole) (p w : Vec F S16x128 .f32) (Φ : PUnit → sProp 𝕄) :
    iprop(owns (SparseCore.T d) a0 fullShare p ∗ owns (SparseCore.T d) a1 fullShare w ∗ (∃ r, owns (SparseCore.T d) a2 fullShare r)
        ∗ (iprop(owns (SparseCore.T d) a0 fullShare p ∗ owns (SparseCore.T d) a1 fullShare w
            ∗ owns (SparseCore.T d) a2 fullShare (fun _ => k1_pay1 p w)) -∗ Φ ⟨⟩))
      ⊢ wp frame (wpE (defs₀ (F := F)) 𝒱₀ (SparseCore.T d) none) E (cc1__tc_loss a0 h0 a1 h1 a2 h2) Φ := by
  rw [cc1__tc_loss_eq_skeleton]; unfold cc1__tc_loss_skel owns
  iintro ⟨⟨%f0, %e0, H0⟩, ⟨%f1, %e1, H1⟩, ⟨%r, %f2, -, H2⟩, Hk⟩
  sl_exec
  sl_step
  iapply Hk
  isplitl [H0]
  · iexists f0; isplitr; · ipureintro; exact e0
    iexact H0
  isplitl [H1]
  · iexists f1; isplitr; · ipureintro; exact e1
    iexact H1
  iexists _; isplitr
  swap; · iexact H2
  ipureintro
  rw [View.read_writes_eq_canon _ _ _ (View.cover_of_tiled _ S1x1.size (by rfl)), View.canon_unit_zero (by decide)]
  rw [View.readAt_eq_ld, View.readAt_eq_ld, ld_allRows, ld_allRows, e0, e1]; try rfl

/-! ## The region -/

/-- The looked-up probabilities by rows, the mask as numbers, the one-word result, in device memory. -/
abbrev pLoc (d : Dev nD) : Loc nD τ sig := (SparseCore.T d).loc main_v5
abbrev wLoc (d : Dev nD) : Loc nD τ sig := (SparseCore.T d).loc main_v4
abbrev rLoc (d : Dev nD) : Loc nD τ sig := (SparseCore.T d).loc main_v6

section Region

variable (b : ℕ) (p : (d : Dev nD) → Buf (Elt F) (pLoc d)) (w : (d : Dev nD) → Buf (Elt F) (wLoc d)) (r : (d : Dev nD) → Buf (Elt F) (rLoc d))

/-- The average the body computes, as the result's one word. -/
abbrev loss (d : Dev nD) : Buf (Elt F) (rLoc d) := fun _ => k1_pay1 (p d) (w d)

/-- The region's data: the arrays at `p`, `w` and `r`, the result left at the average; nothing owed; the waits on
    record at level `b` or below. -/
def lossDat (_ : Fin 1) (d : Dev nD) : Dat τ (Elt F) (HIx 1) ℕ UU ℕ cfg1 d where
  A k := match k with | 0 => p d | 1 => w d | 2 => r d
  after k _ := match k with | 0 => p d | 1 => w d | 2 => fun _ => k1_pay1 (p d) (w d)
  Φ _ := BI.emp
  q _ := fullShare
  owed _ := 0
  recorded _ := {s | (K (F := F)).lev (SparseCore.T d, s.1) s.2 ≤ b}

/-- A window's one block is its whole array. -/
theorem blockOf_p (d : Dev nD) (t : Fin cfg1.N) : (lossDat b p w r 0 d).blockOf 0 t = p d := by
  funext y
  show p d (((cfg1.win 0).blk t).view.emb y) = p d y
  refine congrArg (p d) (funext fun a => Fin.ext ?_)
  blk_simp
  show 0 * _ + (y a).val = (y a).val
  rw [Nat.zero_mul, Nat.zero_add]
/-- So it is for the mask. -/
theorem blockOf_w (d : Dev nD) (t : Fin cfg1.N) : (lossDat b p w r 0 d).blockOf 1 t = w d := by
  funext y
  show w d (((cfg1.win 1).blk t).view.emb y) = w d y
  refine congrArg (w d) (funext fun a => Fin.ext ?_)
  blk_simp
  show 0 * _ + (y a).val = (y a).val
  rw [Nat.zero_mul, Nat.zero_add]

/-- What the body finds staged for the probabilities is that array, -/
theorem before_p (d : Dev nD) (t : Fin cfg1.N) (f) : (lossDat b p w r 0 d).before 0 t f = p d := by
  rw [(lossDat b p w r 0 d).before_in_eq_fetched 0 rfl (fun _ => rfl) (fun _ _ _ => rfl) (fun u => (blockOf_p b p w r d u).symm) t f]
  exact blockOf_p b p w r d t
/-- and for the mask that one. -/
theorem before_w (d : Dev nD) (t : Fin cfg1.N) (f) : (lossDat b p w r 0 d).before 1 t f = w d := by
  rw [(lossDat b p w r 0 d).before_in_eq_fetched 1 rfl (fun _ => rfl) (fun _ _ _ => rfl) (fun u => (blockOf_w b p w r d u).symm) t f]
  exact blockOf_w b p w r d t

/-- The body table's row is the body. -/
theorem defs₀_loss (t : Fin cfg1.N) : defs₀ (F := F) .tc cfg1.body (cfg1.bodyArgs t (cfg1.slots t)) = bodyAt1 t := rfl

/-- The body does its step of the region: it keeps what it reads and leaves the average. -/
theorem loss_obligation (d : Dev nD) : BodyObligation (lossDat b p w r 0 d) (defs₀ (F := F)) 𝒱₀ none Set.univ := fun t => by
  rw [bigSep_W1, bigSep_W1, defs₀_loss]
  simp only [before_p, before_w]
  iintro ⟨HΦ, HO, ⟨%f0, H0⟩, ⟨%f1, H1⟩, ⟨%f2, H2⟩⟩
  iapply (loss_body d Set.univ _ _ _ _ _ _ (p d) (w d) _)
  isplitl [H0]; · iexact H0
  isplitl [H1]; · iexact H1
  isplitl [H2]; · iexists _; iexact H2
  iintro ⟨H0, H1, H2⟩
  isplitl [HΦ]; · dsimp only [lossDat]; iexact HΦ
  isplitl [HO]; · iexact HO
  isplitl [H0]; · iexact H0
  isplitl [H1]; · iexact H1
  iexact H2

/-- The region leaves the probabilities as they were -/
theorem arrAt_p (d : Dev nD) (n : ℕ) : (lossDat b p w r 0 d).arrAt 0 n = p d := (lossDat b p w r 0 d).arrAt_in 0 rfl n
/-- and the mask too. -/
theorem arrAt_w (d : Dev nD) (n : ℕ) : (lossDat b p w r 0 d).arrAt 1 n = w d := (lossDat b p w r 0 d).arrAt_in 1 rfl n
/-- The result's array ends at the average. -/
theorem arrAt_r (d : Dev nD) : (lossDat b p w r 0 d).arrAt 2 cfg1.N = loss p w d := by
  refine (lossDat b p w r 0 d).arrAt_eq_of_after_last 2 t1_0 (by decide +kernel) _ fun j => ?_
  rfl

/-- The three arrays the region is handed, at any contents of the result. -/
theorem arrays_loss (d : Dev nD) (G : (k : Fin cfg1.W) → Buf (Elt F) ((cfg1.win k).arr.view.loc (d.tc : Thread nD τ))) :
    ((lossDat b p w r 0 d).arrays G : sProp 𝕄)
      = iprop((pLoc d ↦{fullShare} (G 0 : Buf (Elt F) (pLoc d))) ∗ (wLoc d ↦{fullShare} (G 1 : Buf (Elt F) (wLoc d)))
          ∗ (rLoc d ↦{fullShare} (G 2 : Buf (Elt F) (rLoc d)))) :=
  (Pipeline.arrays_eq cfgs (lossDat b p w r) 0 d arr_whole1 (fun k => (lossDat b p w r 0 d).share_full (fun _ => rfl) k) G).trans (bigSep_W1 _)

/-- The region's three arrays, nothing owed and no wait on record above level `b`. -/
abbrev lossAt (d : Dev nD) : sProp 𝕄 :=
  iprop(((pLoc d ↦{fullShare} p d) ∗ (wLoc d ↦{fullShare} w d) ∗ (rLoc d ↦{fullShare} r d))
    ∗ ∃ W, ⌜(K (F := F)).WBelow (SparseCore.T d) W b⌝ ∗ owes (SparseCore.T d) 0 W)

/-- No array stands before the grid. -/
abbrev adm : (q : Fin 1) → (pcfgs (F := F) q).Adm := fun q => (cfgs q).toPCfg_adm

/-- The region, from the three arrays and nothing owed, to the same with the result at the average. -/
def lossSeg (L : GSem nD τ sig → Finset (HIx 1)) (lv : GSem nD τ sig → HIx 1 → ℕ) :
    Pipeline.RegionSeg (pcfgs (F := F)) adm (lossDat b p w r) none defs₀ 𝒱₀ L lv 0 where
  win := winFacts1.to₀
  block_pos := block_pos1
  stage_whole := stage_whole1
  K := PEmpty
  osem k := k.elim
  ho := Pipeline.OwnSemFacts.none _
  hbody d := (loss_obligation b p w r d).loose
  hwaits := Pipeline.hwaits_of_owed_zero _ _ _ _ L lv 0 fun _ _ => rfl
  pre d := lossAt b p w r d
  post d := lossAt b p w (loss p w) d
  X _ := BI.emp
  Y _ := BI.emp
  Z _ := BI.emp
  hentry d := by
    rw [Pipeline.ownSems0_none, Pipeline.prefHeld_of_none _ rfl]
    rw [show (lossDat b p w r 0 d).arrays ((lossDat b p w r 0 d).arrAt · 0) = _ from arrays_loss b p w r d _]
    iintro ⟨⟨Ha, %W, %hW, HO⟩, -, -⟩
    imodintro
    isplitl [Ha]; · iexact Ha
    isplitr; · iempintro
    isplitl [HO]
    · iexists W; isplitr; · ipureintro; exact fun s hs => Or.inl (hW s hs)
      iexact HO
    isplitr <;> iempintro
  hin d := by
    iintro -; iempintro
  hout d := by
    rw [Pipeline.ownSems0_none, show Pipeline.scopedRest (Ix := HIx 1) (Name := ℕ) (U := UU) (Lvl := ℕ) (Val := Elt F) (Pipeline.pin (pcfgs (F := F)) adm 0).spec d = BI.emp from scopedRest1_eq d]
    iintro -
    isplitr; · iempintro
    isplitr <;> iempintro
  hexit d := by
    rw [show (lossDat b p w r 0 d).arrays ((lossDat b p w r 0 d).arrAt · cfg1.N) = _ from arrays_loss b p w r d _,
      arrAt_p, arrAt_w, arrAt_r]
    iintro ⟨Ha, ⟨%W, %hW, HO⟩, -, -⟩
    imodintro
    isplitl [Ha]; · iexact Ha
    iexists W; isplitr
    · ipureintro
      intro s hs
      rcases hW hs with h | ⟨k, i, rfl⟩
      · exact h
      · exact Nat.zero_le b
    iexact HO

/-- The call on TensorCore `d` as @main makes it: from the boundary, the three arrays, nothing owed and the region's own
    staging tokens. -/
theorem wp_loss (L : GSem nD τ sig → Finset (HIx 1)) (lv : GSem nD τ sig → HIx 1 → ℕ) [∀ e, Nonempty (Elt F e)] (d : Dev nD) (Φ : PUnit → sProp 𝕄) :
    iprop(levAts L lv ∗ boundary (SparseCore.T d) ∗ Pipeline.cellsGhost (Pipeline.pin (pcfgs (F := F)) adm) EP 0 d
        ∗ Pipeline.toksInit (Pipeline.pin (pcfgs (F := F)) adm) EP 0 d
        ∗ lossAt b p w r d ∗ (iprop(boundary (SparseCore.T d) ∗ lossAt b p w (loss p w) d) -∗ Φ ⟨⟩))
      ⊢ wp frame (wpE ((K (F := F)).defs (D (F := F))) 𝒱 (SparseCore.T d) none) Set.univ
          (Prog.lift (.customCall (SparseCore.inner (Pipeline.entry 0)) ())) Φ := by
  have hl := (K (F := F)).wp_liftProg (D (F := F)) 𝒱 (SparseCore.T d) (bd := none) (Set.univ : Set ℕ) (Prog.lift (.customCall (Pipeline.entry 0) ())) Φ
  refine BI.Entails.trans ?_ hl
  have h := Pipeline.RegionSeg.wp (pcfgs (F := F)) adm (lossDat b p w r) none cellOf_inj EP defs₀ 𝒱₀ L lv (lossSeg b p w r L lv) d none (by intro u h; cases h) .ret Φ
  rw [show (lossSeg b p w r L lv).pre d = lossAt b p w r d from rfl, show (lossSeg b p w r L lv).post d = lossAt b p w (loss p w) d from rfl] at h
  refine BI.Entails.trans ?_ h
  show (_ : sProp 𝕄) ⊢ _
  iintro ⟨#HL, Hb, Hg, Ht, Ha, Hk⟩
  isplitl [Hk]
  · iintro ⟨Hb, Ha⟩
    rw [wp_ret]
    imodintro
    iapply Hk
    isplitl [Hb]; · iexact Hb
    iexact Ha
  isplitl [Hb]; · iexact Hb
  isplitl [Ha]; · iexact Ha
  isplitr; · iexact HL
  isplitl [Hg]; · iexact Hg
  iexact Ht

end Region

end Cert.KernelIdeal.Lookup
-- ==== Proof.KernelIdealMain.lean ====
/-
  The whole program: @main on the TensorCore lays the probabilities and the targets out flat, hands them to the
  SparseCores, averages what they looked up, and leaves the average in its result; its arguments stay as they were.
-/
module

public import proofs.«01_k».proof.Proof.KernelIdealTensorCore

@[expose] public section

noncomputable section

namespace Cert.KernelIdeal.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

/-! ## The ghost state at launch -/

/-- The staging rounds' cells and their tokens, at launch. -/
def stageInit : UR sig nD τ :=
  initOf (Pipeline.cells (Pipeline.pin (pcfgs (F := F)) adm) cellOf_inj) (Pipeline.launchToks (Pipeline.pin (pcfgs (F := F)) adm) cellOf_inj)

/-- The handshakes' rounds and the staging rounds, at launch. -/
def u₀ : UU := (initOf (K (F := F)).hsCells (K (F := F)).hsToks, (stageInit (F := F), 1))

/-- What device `d`'s TensorCore is given of it for its region. -/
abbrev stageGhost (d : Dev nD) : sProp 𝕄 :=
  iprop(Pipeline.cellsGhost (Pipeline.pin (pcfgs (F := F)) adm) EP 0 d ∗ Pipeline.toksInit (Pipeline.pin (pcfgs (F := F)) adm) EP 0 d)

/-- The staging rounds' part of an element of the algebra. -/
theorem own_stage (a : UR sig nD τ) (b : Counters) :
    (BI.own ((embR : Emb (UR sig nD τ × Counters) 𝕄) (a, b)) : sProp 𝕄) ⊢ BI.own (EP a) :=
  (BI.own_op_elim ((embR : Emb (UR sig nD τ × Counters) 𝕄).op_of_mem
    (Prod.mk_mem_op (URA.mem_op_one a) (URA.mem_one_op b)))).trans (sep_elim_left (PROP := sProp 𝕄))

/-- The launch's element for the staging buffers gives every device its own. -/
theorem stage_fund : (BI.own (EP (stageInit (F := F))) : sProp 𝕄) ⊢ |==> bigSep Finset.univ fun d : Dev nD => stageGhost d := by
  have h := Pipeline.fund_ghost (Pipeline.pin (pcfgs (F := F)) adm) (EP (F := F)) cellOf_inj
  refine BI.Entails.trans h ?_
  show (_ : sProp 𝕄) ⊢ _
  iintro >⟨H1, H2⟩
  imodintro
  unfold stageGhost
  rw [bigSep_sep']
  isplitl [H1]
  · iapply (Entails.of_eq (bigSep_congr fun d _ => bigSep_univ_of_subsingleton (0 : Fin 1))) $$ H1
  · iapply (Entails.of_eq (bigSep_congr fun d _ => bigSep_univ_of_subsingleton (0 : Fin 1))) $$ H2

section Run

variable (m : (ℓ : Loc nD τ sig) → Buf (Elt F) ℓ) (ρ : Dev nD → PrngReg)

/-! ## The values -/

/-- The flattened probabilities and targets, the mask as numbers, the looked-up probabilities by rows. -/
def flatX (d : Dev nD) : Buf (Elt F) (xLoc d) :=
  (shapeCast S67108864 (m ((SparseCore.T d).loc main_arg0) : Vec F S64x32x32768 .f32) shapeCasts_S64x32x32768_S67108864 : Vec F S67108864 .f32)
def flatT (d : Dev nD) : Buf (Elt F) (tLoc d) :=
  (shapeCast S2048 (m ((SparseCore.T d).loc main_arg1) : Vec F S64x32 .i32) shapeCasts_S64x32_S2048 : Vec F S2048 .i32)
def maskRows (d : Dev nD) : Vec F S16x128 .i1 :=
  shapeCast S16x128 (m ((SparseCore.T d).loc main_arg2) : Vec F S64x32 .i1) shapeCasts_S64x32_S16x128
def maskNum (d : Dev nD) : Buf (Elt F) (wLoc d) :=
  (uitofp .f32 (maskRows m d) : Vec F S16x128 .f32)
def probRows (d : Dev nD) : Buf (Elt F) (pLoc d) :=
  (shapeCast S16x128 (looked (flatX m d) (flatT m d) : Vec F S2048 .f32) shapeCasts_S2048_S16x128 : Vec F S16x128 .f32)

/-- The program's result, in device memory. -/
abbrev vLoc (d : Dev nD) : Loc nD τ sig := (SparseCore.T d).loc main_v7
/-- What the program leaves there. -/
def lossVal (d : Dev nD) : Buf (Elt F) (vLoc d) :=
  (shapeCast S_ (fun _ => k1_pay1 (probRows m d) (maskNum m d) : Vec F S1x1 .f32) shapeCasts_S1x1_S_ : Vec F S_ .f32)

/-- What the SparseCores are handed and give back. -/
abbrev pay : (K (F := F)).Pay (nD := nD) (Val := Elt F) (Name := ℕ) (U := UU) := P (flatX m) (flatT m) (fun d => m (oLoc d))

/-- The launch's ghost element splits into what the handshakes and what the staging buffers need. -/
theorem hu₀ : (ownU (u₀ (F := F)) : sProp 𝕄)
    ⊢ |={Set.univ}=> iprop(BI.own (EH (initOf (K (F := F)).hsCells (K (F := F)).hsToks)) ∗ (bigSep Finset.univ fun d : Dev nD => stageGhost d)
        ∗ bigSep Finset.univ fun thr : Thread nD τ => bigSep Finset.univ fun q : Fin 1 => (pay m).x q thr) := by
  unfold u₀
  iintro Hu
  ihave H := (ownU_pair (initOf (K (F := F)).hsCells (K (F := F)).hsToks) ((stageInit (F := F), 1) : UR sig nD τ × Counters)) $$ Hu
  icases H with ⟨HH, Hr⟩
  ihave Hp := (own_stage (stageInit (F := F)) 1) $$ Hr
  imod (stage_fund (F := F)) $$ Hp with Hg
  imodintro
  isplitl [HH]; · iexact HH
  isplitl [Hg]; · iexact Hg
  rw [show (bigSep Finset.univ fun thr : Thread nD τ => bigSep Finset.univ fun q : Fin 1 => (pay m).x q thr)
      = (bigSep Finset.univ fun _ => iprop(emp) : sProp 𝕄) from
    bigSep_congr fun _ _ => bigSep_univ_of_subsingleton (0 : Fin 1)]
  iapply (Entails.of_eq (bigSep_emp_const (M := 𝕄) (Finset.univ : Finset (Thread nD τ))).symm)
  iempintro

/-! ## @main -/

/-- An array of @main among a device's. -/
abbrev dref (x : Ref sig .tc) : DevRef τ sig := Proc.devRef .tc x

include m in
/-- An operation of @main that reads the array `x` and writes the array `y`, on those two alone. -/
theorem wp_op (d : Dev nD) {op : HloOp τ sig (Elt F)} (x y : Ref sig .tc) (hne : dref x ≠ dref y)
    (hb : op.bufs = {dref x, dref y}) (hw : op.writes = {dref y}) (hf : op.fresh = ∅)
    (f : Buf (Elt F) ((SparseCore.T d).loc x)) (g h : Buf (Elt F) ((SparseCore.T d).loc y))
    (hres : ∀ V : Valuation τ sig (Elt F), V (dref x) = f → op.result V (dref y) = h) (Φ : PUnit → sProp 𝕄) :
    iprop(boundary (SparseCore.T d) ∗ ((SparseCore.T d).loc x ↦{fullShare} f) ∗ ((SparseCore.T d).loc y ↦{fullShare} g)
        ∗ (iprop(boundary (SparseCore.T d) ∗ ((SparseCore.T d).loc x ↦{fullShare} f) ∗ ((SparseCore.T d).loc y ↦{fullShare} h)) -∗ Φ ⟨⟩))
      ⊢ wp frame (wpE ((K (F := F)).defs (D (F := F))) 𝒱 (SparseCore.T d) none) Set.univ (hlo rfl op fun _ => .ret ⟨⟩) Φ := by
  have two (V : Valuation τ sig (Elt F)) : (held (SparseCore.T d) {dref x, dref y} V : sProp 𝕄)
      = iprop(((SparseCore.T d).loc x ↦{fullShare} (V (dref x) : Buf (Elt F) ((SparseCore.T d).loc x))) ∗ ((SparseCore.T d).loc y ↦{fullShare} (V (dref y) : Buf (Elt F) ((SparseCore.T d).loc y)))) := by
    unfold held
    rw [SparseCore.bigSep_insert' (by simpa using hne), bigSep_singleton]
  obtain ⟨V, hx, hy⟩ : ∃ V : Valuation τ sig (Elt F), V (dref x) = f ∧ V (dref y) = g :=
    ⟨Function.update (Function.update (fun b => m (d, b)) (dref x) f) (dref y) g,
      (Function.update_of_ne hne _ _).trans (Function.update_self _ _ _), Function.update_self _ _ _⟩
  have e1 := two V
  have e2 := two (op.result V)
  rw [op.result_of_not_mem V (b := dref x) (by rw [hw]; simpa using hne), hres V hx, hx] at e2
  rw [hx, hy] at e1
  iintro ⟨Hb, Hx, Hy, Hk⟩
  iapply (wp_hlo_within 𝒱 (SparseCore.T d) none Set.univ (op := op) (S := {dref x, dref y}) hb.le (V := V) hf) $$ [Hb Hx Hy]
  · isplitl [Hb]; · iexact Hb
    iapply (Entails.of_eq e1.symm)
    isplitl [Hx] <;> iassumption
  iintro ⟨Hb, Hh⟩
  rw [wp_ret]; imodintro
  iapply Hk
  isplitl [Hb]; · iexact Hb
  iapply (Entails.of_eq e2) $$ Hh

/-- The arrays of @main, one by one. -/
theorem arrays_main (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ (xLoc d ↦{fullShare} W main_v0) ∗ (tLoc d ↦{fullShare} W main_v1) ∗ (oLoc d ↦{fullShare} W main_v2)
      ∗ ((SparseCore.T d).loc main_v3 ↦{fullShare} W main_v3) ∗ (wLoc d ↦{fullShare} W main_v4) ∗ (pLoc d ↦{fullShare} W main_v5) ∗ (rLoc d ↦{fullShare} W main_v6)
      ∗ ((SparseCore.T d).loc main_v7 ↦{fullShare} W main_v7)) := by
  unfold unscopedBufs
  rw [bigSep_eq_bigSepL_of_eq [main_arg0, main_arg1, main_arg2, main_v0, main_v1, main_v2, main_v3, main_v4, main_v5, main_v6, main_v7] (by decide) (by decide)]
  rfl

/-- What @main leaves: its arguments as they were, its result at the average. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_v7 ↦{fullShare} lossVal m d))

/-- Every device's @main runs: it reshapes, calls the SparseCores, runs the TensorCore's region and reshapes its result. -/
theorem hmain [∀ e, Nonempty (Elt F e)] (κ : GSem nD τ sig → ℕ) (d : Dev nD) :
    iprop((K (F := F)).ctx EH (pay m) κ ∗ (K (F := F)).tcSt EH d 0 ∗ (K (F := F)).tcRes m ρ d ∗ stageGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_main]
  simp only [main, wp_bind, wp_pure]
  iintro ⟨#Hctx, Hst, ⟨Hb, ⟨A0, A1, A2, B0, B1, B2, B3, B4, B5, B6, B7⟩, Hts, -⟩, Hc, Htk⟩
  -- the probabilities and the targets flat
  iapply (wp_op m d main_arg0 main_v0 (by decide) rfl rfl rfl _ _ (flatX m d) (fun V e => by
    rw [StableHlo.reshape_result, e]; rfl))
  isplitl [Hb]; · iexact Hb
  isplitl [A0]; · iexact A0
  isplitl [B0]; · iexact B0
  iintro ⟨Hb, A0, B0⟩
  iapply (wp_op m d main_arg1 main_v1 (by decide) rfl rfl rfl _ _ (flatT m d) (fun V e => by
    rw [StableHlo.reshape_result, e]; rfl))
  isplitl [Hb]; · iexact Hb
  isplitl [A1]; · iexact A1
  isplitl [B1]; · iexact B1
  iintro ⟨Hb, A1, B1⟩
  -- the look-up
  iapply ((K (F := F)).wp_run (D (F := F)) 𝒱 (EH := EH) (P := pay m) κ d 0)
  isplitr; · iexact Hctx
  isplitl [Hst]; · iexact Hst
  isplitl [B0 B1 B2]
  · rw [st_all]
    isplitl [B0]; · iexact B0
    isplitl [B1]; · iexact B1
    iexact B2
  iintro ⟨Hst0, Hdn⟩
  ihave Hst := (Entails.of_eq (show (K (F := F)).tcSt EH d ((0 : Fin 1).val + 1) = ((K (F := F)).tcSt EH d 1 : sProp 𝕄) from rfl)) $$ Hst0
  ihave Hdn' := (Entails.of_eq (dn_all (flatX m) (flatT m) (fun d => m (oLoc d)) d)) $$ Hdn
  icases Hdn' with ⟨B0, B1, B2⟩
  -- the mask as numbers, the looked-up probabilities by rows
  iapply (wp_op m d main_arg2 main_v3 (by decide) rfl rfl rfl _ _ (maskRows m d) (fun V e => by
    rw [StableHlo.reshape_result, e]; rfl))
  isplitl [Hb]; · iexact Hb
  isplitl [A2]; · iexact A2
  isplitl [B3]; · iexact B3
  iintro ⟨Hb, A2, B3⟩
  iapply (wp_op m d main_v3 main_v4 (by decide) rfl rfl rfl _ _ (maskNum m d) (fun V e => by
    rw [StableHlo.unary_result, e]; rfl))
  isplitl [Hb]; · iexact Hb
  isplitl [B3]; · iexact B3
  isplitl [B4]; · iexact B4
  iintro ⟨Hb, B3, B4⟩
  iapply (wp_op m d main_v2 main_v5 (by decide) rfl rfl rfl _ _ (probRows m d) (fun V e => by
    rw [StableHlo.reshape_result, e]; rfl))
  isplitl [Hb]; · iexact Hb
  isplitl [B2]; · iexact B2
  isplitl [B5]; · iexact B5
  iintro ⟨Hb, B2, B5⟩
  -- the average
  ihave #Hlv := ((K (F := F)).ctx_levAts κ) $$ Hctx
  unfold SparseCore.Cfg.tcSt
  icases Hst with ⟨⟨%W, %hW, HO⟩, Hrest⟩
  rw [(K (F := F)).Otc_end d (le_refl 1)]
  iapply (wp_loss _ (probRows m) (maskNum m) (fun d => m (rLoc d)) _ _ d _)
  isplitr; · iexact Hlv
  isplitl [Hb]; · iexact Hb
  isplitl [Hc]; · iexact Hc
  isplitl [Htk]; · iexact Htk
  isplitl [B4 B5 B6 HO]
  · isplitl [B4 B5 B6]
    · isplitl [B5]; · iexact B5
      isplitl [B4]; · iexact B4
      iexact B6
    iexists W; isplitr; · ipureintro; exact hW
    iexact HO
  iintro ⟨Hb, ⟨B5, B4, B6⟩, HO⟩
  -- the one word as a scalar
  iapply (wp_op m d main_v6 main_v7 (by decide) rfl rfl rfl _ _ (lossVal m d) (fun V e => by
    rw [StableHlo.reshape_result, e]; rfl))
  isplitl [Hb]; · iexact Hb
  isplitl [B6]; · iexact B6
  isplitl [B7]; · iexact B7
  iintro ⟨Hb, B6, B7⟩
  imodintro
  isplitl [HO Hrest]
  · isplitl [HO]; · iexact HO
    iexact Hrest
  isplitr [Hb Hts]
  · isplitl [A0]; · iexact A0
    isplitl [A1]; · iexact A1
    isplitl [A2]; · iexact A2
    iexact B7
  isplitl [Hb] <;> iassumption

/-! ## The run -/

/-- What the end state's memory holds on device `d`. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_v7) = lossVal m d

/-- A whole array held at `f` is at `f` in the memory. -/
theorem mem_of_held (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr; · ipureintro; exact funext fun i => h i (Finset.mem_univ i)
  iexact HSI

/-- What a device holds at the end fixes the memory of its arguments and of its result. -/
theorem hfin (d : Dev nD) (s' : Phys nD τ sig (Elt F)) : iprop(FIN m d ∗ SI s') ⊢ (⌜fq m d s'⌝ : sProp 𝕄) := by
  iintro ⟨⟨H0, H1, H2, H7⟩, HSI⟩
  ihave H := (mem_of_held s' _ _) $$ [H0 HSI]
  · isplitl [H0] <;> iassumption
  icases H with ⟨%h0, HSI⟩
  ihave H := (mem_of_held s' _ _) $$ [H1 HSI]
  · isplitl [H1] <;> iassumption
  icases H with ⟨%h1, HSI⟩
  ihave H := (mem_of_held s' _ _) $$ [H2 HSI]
  · isplitl [H2] <;> iassumption
  icases H with ⟨%h2, HSI⟩
  ihave H := (mem_of_held s' _ _) $$ [H7 HSI]
  · isplitl [H7] <;> iassumption
  icases H with ⟨%h7, -⟩
  ipureintro; exact ⟨h0, h1, h2, h7⟩

/-- Every run ends with the arguments as they were, the result at the average, and every semaphore at zero. -/
theorem run_main [∀ e, Nonempty (Elt F e)] (ht : ∀ d, InRange (flatT m d)) :
    θ_run (defs (F := F)) (threads (F := F)) ⟨m, fun _ => 0, ρ⟩ (fun r => (∀ c : Dev nD,
      (r.2.mem ((SparseCore.T c).loc main_arg0) = m ((SparseCore.T c).loc main_arg0) ∧ r.2.mem ((SparseCore.T c).loc main_arg1) = m ((SparseCore.T c).loc main_arg1)
        ∧ r.2.mem ((SparseCore.T c).loc main_arg2) = m ((SparseCore.T c).loc main_arg2) ∧ r.2.mem ((SparseCore.T c).loc main_v7) = lossVal m c))
      ∧ r.2.sem = fun _ => 0) :=
  SparseCore.Cfg.θ_run_sc_quiescent (K := K (F := F)) (D := D (F := F)) (𝒱 := 𝒱) (EH := EH) (P := pay m) (A := ∅) facts v₀
    (fun q hq => match q with | 0 => nomatch hq)
    (fun q _ => match q with | 0 => tileObl (flatX m) (flatT m) (fun d => m (oLoc d)) facts ht)
    (fun q _ => match q with | 0 => SparseCore.Cfg.VecSplit.of_plain (vecSplit (flatX m) (flatT m) (fun d => m (oLoc d))))
    m ρ main (fun d => stageGhost d) (FIN m) (u₀ (F := F)) (sep_elim_left.trans (hu₀ m)) (hmain m ρ) (fq m) (hfin m) _ (fun _ h hz => ⟨h, hz⟩)

end Run

end Cert.KernelIdeal.Lookup
-- ==== Proof.MeanLoss.lean ====
/-
  The number both programs compute, written without either program: over the chosen places of a 64 x 32 table, the mean
  of minus the logarithm of one entry of each 32768-long row. With it stand the few facts about sums and counts that the
  two sides share.
-/
module

public import Idealize.ShloMosaic.PureOps.Ideal.Laws
public import Idealize.ShloMosaic.Lib.ValueIdxCore
public import Idealize.ShloMosaic.Lib.ReduceAll
public import Idealize.ShloMosaic.Lib.Pipeline.Value

@[expose] public section

noncomputable section

open scoped BigOperators

namespace Cert.MeanLoss

open Idealize.ShloMosaic

/-- The shape of the table of places. -/
abbrev Places : Shape := ⟨2, ![64, 32]⟩
/-- The shape of the table of probabilities: one row for each place. -/
abbrev Probs : Shape := ⟨3, ![64, 32, 32768]⟩

variable (x : Probs.Idx → EReal) (t : Places.Idx → BitVec 32) (mk : Places.Idx → BitVec 1)

/-- Where in the table of probabilities the entry wanted at place `i` lies. -/
abbrev entry (i : Places.Idx) : Probs.Idx :=
  ValueIdx.ix3 (i 0) (i 1) ⟨(t i).toNat % 32768, Nat.mod_lt _ (by decide)⟩

/-- What place `i` adds to the sum of losses: minus the logarithm of its probability if it is chosen, else nothing. -/
abbrev loss (i : Places.Idx) : EReal := if mk i = 1#1 then -(Ideal.log (x (entry t i))) else 0

/-- How many places are chosen. -/
abbrev chosen : ℕ := ∑ i, (mk i).toNat

/-- The mean loss over the chosen places. -/
abbrev mean : EReal := Ideal.div (∑ i, loss x t mk i) ((chosen mk : ℝ) : EReal)

/-! ## Bits and counts -/

/-- A number times a bit read as a number is the number where the bit is set and zero elsewhere, whatever the number
    (an infinite one included). -/
theorem mul_bit (a : EReal) (b : BitVec 1) : a * (((b.toNat : ℝ)) : EReal) = if b = 1#1 then a else 0 := by
  rcases eq_or_ne b 1#1 with rfl | h
  · simp
  · obtain rfl : b = 0#1 := by
      have := b.isLt
      exact BitVec.eq_of_toNat_eq (by
        have h1 : b.toNat ≠ 1 := fun e => h (BitVec.eq_of_toNat_eq e)
        show b.toNat = 0
        omega)
    simp

/-- Bits summed as extended reals are their sum as naturals. -/
theorem sum_bits {ι : Type} [Fintype ι] (b : ι → BitVec 1) :
    ∑ i, (((b i).toNat : ℝ) : EReal) = (((∑ i, (b i).toNat : ℕ) : ℝ) : EReal) := by
  rw [Nat.cast_sum]
  exact (map_sum (⟨⟨fun r : ℝ => (r : EReal), EReal.coe_zero⟩, EReal.coe_add⟩ : ℝ →+ EReal) _ _).symm

/-- No more places can be chosen than there are. -/
theorem chosen_le : chosen mk ≤ 2048 := by
  refine (Finset.sum_le_sum (g := fun _ => 1) fun i _ => ?_).trans ?_
  · have := (mk i).isLt
    omega
  · rw [Finset.sum_const, Finset.card_univ, Fintype.card_congr Places.rowMajor, Fintype.card_fin]
    exact le_of_eq (by rfl)

/-- A sum over one shape of a re-indexed family is the sum over the other shape. -/
theorem sum_shapeCast {α : Type} [AddCommMonoid α] {s u : Shape} (h : s.ShapeCasts u) (f : s.Idx → α) :
    ∑ j, shapeCast u f h j = ∑ i, f i :=
  Equiv.sum_comp (Shape.reshapeEquiv h) f

/-! ## Words added up -/

/-- Adding words up from the left, the running total as a word is the running total of their values. -/
theorem foldl_words {ι : Type} (f : ι → BitVec 32) :
    ∀ (l : List ι) (n : ℕ), l.foldl (fun r i => IntOp.addi r (f i)) (BitVec.ofNat 32 n)
      = BitVec.ofNat 32 (n + (l.map fun i => (f i).toNat).sum)
  | [], n => rfl
  | a :: l, n => by
    have e : IntOp.addi (BitVec.ofNat 32 n) (f a) = BitVec.ofNat 32 (n + (f a).toNat) := by
      show BitVec.ofNat 32 n + f a = _
      rw [BitVec.ofNat_add, BitVec.ofNat_toNat, BitVec.setWidth_eq]
    rw [List.foldl_cons, e, foldl_words f l, List.map_cons, List.sum_cons, Nat.add_assoc]

/-- The host's sum of a whole array of words, from zero, is the sum of their values as a word. -/
theorem reduce_words {s u v : Shape} {axes : List (Fin s.rank)} [Subsingleton u.Idx] (w : s.Idx → BitVec 32)
    (h : s.ReducesTo axes u) (hv : 0 < v.numel) (j : u.Idx) :
    Host.reduce IntOp.addi w (constantI v 32 0#32) h hv j = BitVec.ofNat 32 (∑ i, (w i).toNat) := by
  rw [Host.reduce_eq_foldl, List.filter_eq_self.2 fun i _ => decide_eq_true (Subsingleton.elim _ _)]
  refine (foldl_words w _ 0).trans ?_
  rw [Nat.zero_add, List.map_map, ← Equiv.sum_comp s.rowMajor.symm, ← List.ofFn_eq_map, List.sum_ofFn]
  rfl

end Cert.MeanLoss

end
-- ==== Proof.KernelIdealMean.lean ====
/-
  What the kernel leaves is the mean loss: its value, read as extended reals, is the number of MeanLoss.lean.
-/
module

public import proofs.«01_k».proof.Proof.KernelIdealMain
public import proofs.«01_k».proof.Proof.MeanLoss

@[expose] public section

noncomputable section

open scoped BigOperators

namespace Cert.KernelIdeal.Lookup

open Cert.KernelIdeal Cert.KernelIdeal.Gen
open Idealize.ShloMosaic Cert.MeanLoss

/-! ## The TensorCore's arithmetic -/

/-- The TensorCore's number, from any probabilities and weights laid out in 16 rows of 128: the sum of minus the
    logarithms, each times its weight, over the sum of the weights. -/
theorem pay_apply (p w : Vec Ideal S16x128 .f32) :
    k1_pay1 p w = Ideal.div (∑ j : S16x128.Idx, (0 - Ideal.log (p j : EReal)) * (w j : EReal)) (∑ j : S16x128.Idx, (w j : EReal)) := by
  have total : ∀ f : FVec Ideal S16x128 .f32, ∀ k : S1.Idx,
      multiReduction .add [1, 2] S1 (shapeCast S1x16x128 f shapeCasts_S16x128_S1x16x128) 0x00000000#32 reduces_S1x16x128_S1 (.inl rfl) rfl k
        = ∑ j : S16x128.Idx, (f j : EReal) := fun f k =>
    (Ideal.multiReduction_add_total _ _ reduces_S1x16x128_S1 (fun b => by match b with | ⟨0, _⟩ => rfl) _ _ k).trans
      (sum_shapeCast shapeCasts_S16x128_S1x16x128 f)
  have self : ∀ f : FVec Ideal S16x128 .f32, shapeCast S16x128 f shapeCasts_S16x128_S16x128 = f := fun f =>
    funext fun j => congrArg f (Shape.reshapeEquiv_self _ j)
  unfold k1_pay1
  rw [self, self]
  show Ideal.div _ _ = _
  refine congrArg₂ Ideal.div ((total _ _).trans (Finset.sum_congr rfl fun j _ => ?_)) (total _ _)
  show (Ideal.ofBits .f32 0x00000000#32 - Ideal.log (p j)) * (w j : EReal) = _
  rw [Ideal.ofBits_zero_f32]

/-! ## Its operands, place by place -/

variable (m : (l : Loc nD τ sig) → Buf (Elt Ideal) l) (d : Dev nD)

/-- The three arguments on one device, as the shared number's operands. -/
abbrev argX : Probs.Idx → EReal := m ((SparseCore.T d).loc main_arg0)
abbrev argT : Places.Idx → BitVec 32 := m ((SparseCore.T d).loc main_arg1)
abbrev argMask : Places.Idx → BitVec 1 := m ((SparseCore.T d).loc main_arg2)

/-- If every index lies in its row in the table of places, it does so in the flat list of them. -/
theorem inRange_flat (h : ∀ i, (argT m d i).toNat < 32768) : InRange (flatT m d) := fun _ => h _

/-- The probability the SparseCores look up for place `i` is the entry of row `i` that the index names. -/
theorem looked_place (h : ∀ i, (argT m d i).toNat < 32768) (i : Places.Idx) :
    looked (flatX m d) (flatT m d) (Shape.reshapeEquiv shapeCasts_S64x32_S2048.symm i) = argX m d (entry (argT m d) i) := by
  refine congrArg (argX m d) (Shape.reshapeEquiv_eq_of_rowMajor _ ?_)
  have back : flatT m d (Shape.reshapeEquiv shapeCasts_S64x32_S2048.symm i) = argT m d i :=
    congrArg (argT m d) ((Shape.reshapeEquiv_reshapeEquiv _ _ i).trans (Shape.reshapeEquiv_self _ i))
  have row : ((Shape.reshapeEquiv shapeCasts_S64x32_S2048.symm i : S2048.Idx) 0).val = (i 0).val * 32 + (i 1).val :=
    (Shape.rowMajor_val_one _).symm.trans ((Shape.rowMajor_reshapeEquiv _ i).trans (Shape.rowMajor_val_two i))
  have hi := h i
  have h0 : (i 0).val < 64 := (i 0).isLt
  have h1 : (i 1).val < 32 := (i 1).isLt
  refine (Shape.rowMajor_val_three _).trans (Eq.trans ?_ (Shape.rowMajor_val_one _).symm)
  show ((i 0).val * 32 + (i 1).val) * 32768 + (argT m d i).toNat % 32768
    = (place (flatT m d) (Shape.reshapeEquiv shapeCasts_S64x32_S2048.symm i)).toNat % 67108864
  rw [place_toNat (inRange_flat m d h), back, row]
  omega

/-- What is left in the result is the mean loss. -/
theorem lossVal_eq (h : ∀ i, (argT m d i).toNat < 32768) :
    (lossVal m d : S_.Idx → EReal) = fun _ => mean (argX m d) (argT m d) (argMask m d) := by
  have hp : ∀ j, probRows m d j = argX m d (entry (argT m d) (Shape.reshapeEquiv shapeCasts_S64x32_S16x128 j)) := fun j => by
    rw [← looked_place m d h]
    refine congrArg (looked (flatX m d) (flatT m d)) ?_
    rw [Shape.reshapeEquiv_reshapeEquiv]
  have hw : ∀ j, (maskNum m d j : EReal) = (((argMask m d (Shape.reshapeEquiv shapeCasts_S64x32_S16x128 j)).toNat : ℝ) : EReal) :=
    fun _ => rfl
  funext k
  show k1_pay1 (probRows m d) (maskNum m d) = _
  rw [pay_apply]
  refine congrArg₂ Ideal.div ?_ ?_
  · rw [← Equiv.sum_comp (Shape.reshapeEquiv shapeCasts_S64x32_S16x128)]
    refine Finset.sum_congr rfl fun j _ => ?_
    rw [hw, mul_bit, hp, zero_sub]
  · rw [← sum_bits, ← Equiv.sum_comp (Shape.reshapeEquiv shapeCasts_S64x32_S16x128)]
    exact Finset.sum_congr rfl fun j _ => hw j

end Cert.KernelIdeal.Lookup

end
-- ==== Proof.ReferenceIdealMean.lean ====
/-
  The reference's result is the mean loss: the term its run ends with, read as extended reals, is the number of
  MeanLoss.lean whenever every index names a column of its row.
-/
module

public import proofs.«01_k».proof.Proof.Gen.ReferenceIdeal.Run
public import proofs.«01_k».proof.Proof.MeanLoss

@[expose] public section

noncomputable section

open scoped BigOperators

namespace Cert.ReferenceIdeal.Lookup

open Cert.ReferenceIdeal Cert.ReferenceIdeal.Gen
open Idealize.ShloMosaic Idealize.ShloMosaic.TcCoe Idealize.SL.Sem Cert.MeanLoss

variable (x : Vec Ideal S64x32x32768 .f32) (t : IVec S64x32 32) (mk : IVec S64x32 1)

/-! ## The indices -/

/-- The indices, with an axis of one column behind the places. -/
abbrev wide : IVec S64x32x1 32 := broadcastInDim S64x32x1 ![0, 1] bcast_S64x32_S64x32x1_0_1 t

/-- The indices with a negative one counted from the end of its row. -/
abbrev wrapped : IVec S64x32x1 32 :=
  select (cmpi .slt (wide t) (broadcastInDim S64x32x1 ![] bcast_S_S64x32x1 (constantI S_ 32 0#32)))
    (addi (wide t) (broadcastInDim S64x32x1 ![] bcast_S_S64x32x1 (constantI S_ 32 32768#32))) (wide t)

/-- The indices as the gather takes them, one index vector of one coordinate for each place. -/
abbrev starts : IVec S64x32x1x1 32 := shapeCast S64x32x1x1 (wrapped t) shapeCasts_S64x32x1_S64x32x1x1

/-- The place a position of the widened table belongs to. -/
abbrev place3 (k : S64x32x1.Idx) : Places.Idx := ValueIdx.ix2 (k 0) (k 1)

/-- The widened table of indices holds at each position the index of its place. -/
theorem wide_apply (k : S64x32x1.Idx) : wide t k = t (place3 k) :=
  congrArg t (funext fun a => by match a with | ⟨0, _⟩ => rfl | ⟨1, _⟩ => rfl)

variable {t} (h : ∀ i, (t i).toNat < 32768)

include h in
/-- An index below 32768 reads the same with a sign as without. -/
theorem toInt_index (i : S64x32.Idx) : (t i).toInt = ((t i).toNat : ℤ) := by
  have := h i
  rw [BitVec.toInt_eq_toNat_cond, if_pos (by omega)]

include h in
/-- No index is negative, so none is counted from the end. -/
theorem wrapped_apply (k : S64x32x1.Idx) : wrapped t k = t (place3 k) := by
  have hn : IntOp.cmpi .slt (wide t k) 0#32 = 0#1 := ValueIdx.eq_zero_of_ne_one fun e => by
    rw [IntOp.cmpi_slt, wide_apply, toInt_index h] at e
    exact absurd e (by simp)
  show (if IntOp.cmpi .slt (wide t k) 0#32 = 1#1 then _ else wide t k) = _
  rw [hn, if_neg (by decide), wide_apply]

include h in
/-- Every index passes the test of lying in its row. -/
theorem inside_apply (k : S64x32x1.Idx) :
    Host.reduce IntOp.andi (andi (cmpi .sge (starts t) (broadcastInDim S64x32x1x1 ![] bcast_S_S64x32x1x1 (constantI S_ 32 0#32)))
        (cmpi .sle (starts t) (broadcastInDim S64x32x1x1 ![0, 1, 2, 3] bcast_S1x1x1x1_S64x32x1x1_0_1_2_3
          (broadcastInDim S1x1x1x1 ![3] bcast_S1_S1x1x1x1_3 (constantI S1 32 32767#32)))))
      (constantI S_ 1 1#1) reducesTo_S64x32x1x1_S64x32x1_d3 h_S_ k = 1#1 := by
  refine Host.reduce_andi_one _ _ _ _ k rfl fun j => ?_
  obtain ⟨i, hi⟩ : ∃ i, starts t j = t i := ⟨_, wrapped_apply h _⟩
  show IntOp.andi (IntOp.cmpi .sge (starts t j) 0#32) (IntOp.cmpi .sle (starts t j) 32767#32) = 1#1
  have := h i
  rw [IntOp.andi_eq_one, IntOp.cmpi_sge, IntOp.cmpi_sle, hi, toInt_index h]
  exact ⟨Int.natCast_nonneg _, by show ((t i).toNat : ℤ) ≤ 32767; omega⟩

/-! ## The probabilities -/

/-- The place of the gather's one index vector for position `k`. -/
abbrev startOf (k : S64x32x1.Idx) : S64x32x1x1.Idx := ValueIdx.ix4 (k 0) (k 1) 0 0

include h in
/-- The gather's index vector for a position is the index of its place. -/
theorem starts_apply (k : S64x32x1.Idx) : starts t (startOf k) = t (place3 k) := by
  have hk : Shape.reshapeEquiv shapeCasts_S64x32x1_S64x32x1x1 (startOf k) = ValueIdx.ix3 (k 0) (k 1) 0 :=
    Shape.reshapeEquiv_eq_of_rowMajor _ ((Shape.rowMajor_val_three _).trans (Eq.trans (by
      show ((k 0).val * 32 + (k 1).val) * 1 + 0 = (((k 0).val * 32 + (k 1).val) * 1 + 0) * 1 + 0
      omega) (Shape.rowMajor_val_four _).symm))
  exact (congrArg (wrapped t) hk).trans (wrapped_apply h _)

include h in
/-- The gather reads, for each place, the entry of its row that the index names. -/
theorem gathered (k : S64x32x1.Idx) :
    Host.gather gather_S64x32x32768_S64x32x1x1_S64x32x1_n_2_01_01_2_3_111 x (starts t) k = x (entry t (place3 k)) := by
  have rows : ∀ a : Fin 3, a ∈ gather_S64x32x32768_S64x32x1x1_S64x32x1_n_2_01_01_2_3_111.operandBatchingDims → gather_S64x32x32768_S64x32x1x1_S64x32x1_n_2_01_01_2_3_111.start k (starts t) a = 0 := fun a ha =>
    GatherDims.start_batching _ _ _ _ ha
  have flat : ∀ a : Fin 3, gather_S64x32x32768_S64x32x1x1_S64x32x1_n_2_01_01_2_3_111.offCoord k a = 0 := fun a =>
    GatherDims.offCoord_eq_zero _ _ _ (by revert a; decide)
  refine congrArg x (funext fun a => Fin.ext ?_)
  show gather_S64x32x32768_S64x32x1x1_S64x32x1_n_2_01_01_2_3_111.start k (starts t) a + gather_S64x32x32768_S64x32x1x1_S64x32x1_n_2_01_01_2_3_111.batchCoord k a + gather_S64x32x32768_S64x32x1x1_S64x32x1_n_2_01_01_2_3_111.offCoord k a = _
  rw [flat, Nat.add_zero]
  match a with
  | ⟨0, ha⟩ => exact (congrArg (· + _) (rows 0 (by decide))).trans (Nat.zero_add _)
  | ⟨1, ha⟩ => exact (congrArg (· + _) (rows 1 (by decide))).trans (Nat.zero_add _)
  | ⟨2, ha⟩ =>
    refine (congrArg (_ + ·) (GatherDims.batchCoord_eq_zero gather_S64x32x32768_S64x32x1x1_S64x32x1_n_2_01_01_2_3_111 k (2 : Fin 3) (by decide))).trans ?_
    show gather_S64x32x32768_S64x32x1x1_S64x32x1_n_2_01_01_2_3_111.start k (starts t) (2 : Fin 3) = (t (place3 k)).toNat % 32768
    unfold GatherDims.start
    rw [dif_pos (by decide)]
    have at_k : ∀ q, gather_S64x32x32768_S64x32x1x1_S64x32x1_n_2_01_01_2_3_111.siIdx k q = startOf k := fun q => by
      funext b
      refine Fin.ext ?_
      match b with
      | ⟨0, _⟩ => rfl
      | ⟨1, _⟩ => rfl
      | ⟨2, _⟩ => exact Nat.lt_one_iff.1 (Fin.isLt _)
      | ⟨3, _⟩ => exact Nat.lt_one_iff.1 (Fin.isLt _)
    have := h (place3 k)
    rw [at_k, starts_apply h, toInt_index h]
    show min ((t (place3 k)).toNat : ℤ).toNat (32768 - 1) = _
    omega

include h in
/-- The probability the reference takes the logarithm of, at each place, whatever it would put where the test fails. -/
theorem prob_apply (nan : Vec Ideal S64x32x1 .f32) (i : S64x32.Idx) :
    shapeCast S64x32 (select (Host.reduce IntOp.andi (andi (cmpi .sge (starts t) (broadcastInDim S64x32x1x1 ![] bcast_S_S64x32x1x1 (constantI S_ 32 0#32)))
        (cmpi .sle (starts t) (broadcastInDim S64x32x1x1 ![0, 1, 2, 3] bcast_S1x1x1x1_S64x32x1x1_0_1_2_3
          (broadcastInDim S1x1x1x1 ![3] bcast_S1_S1x1x1x1_3 (constantI S1 32 32767#32)))))
      (constantI S_ 1 1#1) reducesTo_S64x32x1x1_S64x32x1_d3 h_S_)
      (Host.gather gather_S64x32x32768_S64x32x1x1_S64x32x1_n_2_01_01_2_3_111 x (starts t)) nan) shapeCasts_S64x32x1_S64x32 i
      = x (entry t i) := by
  have hk : Shape.reshapeEquiv shapeCasts_S64x32x1_S64x32 i = ValueIdx.ix3 (i 0) (i 1) 0 :=
    Shape.reshapeEquiv_eq_of_rowMajor _ ((Shape.rowMajor_val_three _).trans (Eq.trans (by
      show ((i 0).val * 32 + (i 1).val) * 1 + 0 = (i 0).val * 32 + (i 1).val
      omega) (Shape.rowMajor_val_two i).symm))
  show (if Host.reduce _ _ _ _ _ (Shape.reshapeEquiv shapeCasts_S64x32x1_S64x32 i) = 1#1 then _ else _) = _
  rw [inside_apply h, if_pos rfl, gathered x h]
  rw [hk]
  exact congrArg (fun j => x (entry t j)) (ValueIdx.eq_ix2 i).symm

/-! ## The sums -/

/-- The number of chosen places, counted in words, is the number of chosen places. -/
theorem count_apply (j : S_.Idx) :
    (sitofp (F := Ideal) .f32 (Host.reduce IntOp.addi (extui 32 mk natLt_1_32) (constantI S_ 32 0#32) reducesTo_S64x32_S_d0_1 h_S_) j : EReal)
      = ((chosen mk : ℝ) : EReal) := by
  show (((Host.reduce IntOp.addi (extui 32 mk natLt_1_32) (constantI S_ 32 0#32) reducesTo_S64x32_S_d0_1 h_S_ j).toInt : ℝ) : EReal) = _
  haveI : Subsingleton S_.Idx := ⟨fun a b => funext fun c => c.elim0⟩
  have e : ∑ i, ((extui 32 mk natLt_1_32 : IVec S64x32 32) i).toNat = chosen mk := Finset.sum_congr rfl fun i _ => by
    show ((mk i).setWidth 32).toNat = _
    have := (mk i).isLt
    rw [BitVec.toNat_setWidth]
    omega
  have := chosen_le mk
  rw [reduce_words, e, BitVec.toInt_eq_toNat_cond, BitVec.toNat_ofNat, Nat.mod_eq_of_lt (by omega), if_pos (by omega), Int.cast_natCast]

/-- What the reference leaves in its result is the mean loss of its arguments. -/
theorem run_mean (m : (l : Loc nD τ sig) → Buf (Elt Ideal) l) (ρ : Dev nD → PrngReg)
    (ht : ∀ c : Dev nD, ∀ i : Places.Idx, BitVec.toNat (m ((c.tc : Thread nD τ).loc main_arg1) i : BitVec 32) < 32768) :
    θ_run (defs (F := Ideal)) (onTc (τ := τ) (main (F := Ideal))) ⟨m, fun _ => 0, ρ⟩ fun r => ∀ c : Dev nD,
      (r.2.mem ((c.tc : Thread nD τ).loc main_v10) : S_.Idx → EReal)
        = (fun _ => mean (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r hr c => ⟨(hr c).1.trans (funext fun j => ?_), (hr c).2⟩) (Value.run m ρ)
  refine congrArg₂ Ideal.div ((Ideal.hostReduceAdd_total _ (fun b => b.elim0) _ _ j).trans ?_) (count_apply _ j)
  refine (congrArg₂ (· + ·) Ideal.ofBits_zero_f32 (Finset.sum_congr rfl fun i _ => ?_)).trans (zero_add _)
  refine congrArg₂ (fun a b : EReal => if m ((c.tc : Thread nD τ).loc main_arg2) i = 1#1 then a else b) ?_ Ideal.ofBits_zero_f32
  exact congrArg (fun p : EReal => -(Ideal.log p)) (prob_apply _ (ht c) _ i)

end Cert.ReferenceIdeal.Lookup

end
-- ==== Proof.Indices.lean ====
/-
  What the claims' precondition says of the indices: each, read without a sign, is below 32768.
-/
module

public import proofs.«01_k».proof.Proof.Gen.Pre_in_range
public import Idealize.ShloMosaic.Lib.ReduceAll

@[expose] public section

noncomputable section

namespace Cert.Pre_in_range.Lookup

open Cert.Pre_in_range Idealize.ShloMosaic

/-- Where the precondition holds every index is at least zero and below 32768 as a signed word, and so below 32768 as an
    unsigned one. -/
theorem index_lt {F : FTy → Type} [FloatOps F] (x : FVec F S64x32x32768 .f32) (t : IVec S64x32 32) (mk : IVec S64x32 1)
    (h : fn x t mk = fun _ => 1#1) (i : S64x32.Idx) : (t i).toNat < 32768 := by
  haveI : Subsingleton S_.Idx := ⟨fun a b => funext fun c => c.elim0⟩
  have both : IntOp.andi (IntOp.cmpi .sge (t i) 0#32) (IntOp.cmpi .slt (t i) 32768#32) = 1#1 :=
    Host.reduce_andi_all _ _ _ _ (fun a => a.elim0) (congrFun h _) i
  rw [IntOp.andi_eq_one, IntOp.cmpi_sge, IntOp.cmpi_slt] at both
  have low : (0 : ℤ) ≤ (t i).toInt := both.1
  have high : (t i).toInt < 32768 := both.2
  rw [BitVec.toInt_eq_toNat_cond] at low high
  split at high <;> omega

end Cert.Pre_in_range.Lookup

end
-- ==== Proof.lean ====
/-
  The certificate, put together from the modules under Proof/. Each kernel's run (KernelMain.lean, KernelIdealMain.lean)
  gives its frame; the reference's run gives its; the two values meet in the mean loss of MeanLoss.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.KernelMain
public import proofs.«01_k».proof.Proof.KernelIdealMain
public import proofs.«01_k».proof.Proof.KernelIdealMean
public import proofs.«01_k».proof.Proof.ReferenceIdealMean
public import proofs.«01_k».proof.Proof.Indices
public import Idealize.ShloMosaic.Adequacy
public import Idealize.ShloMosaic.Init

@[expose] public section

noncomputable section

namespace Cert.Proof

open Idealize.ShloMosaic Idealize.SL.Sem

/-- The kernel at the hardware's floats runs, keeps its arguments and leaves every semaphore at zero. -/
theorem kernel_frame : Cert.quiescent_Kernel := fun m g hpre =>
  (θ_run _ _ _).mono (fun _ h => ⟨fun c => ⟨(h.1 c).1, (h.1 c).2.1, (h.1 c).2.2.1⟩, h.2⟩)
    (Cert.Kernel.Lookup.run_main (F := Bits) m g fun d _ => Cert.Pre_in_range.Lookup.index_lt _ _ _ (hpre d) _)

/-- The indices of a memory that meets the precondition lie in their rows. -/
theorem index_lt (m : (l : Loc Cert.KernelIdeal.nD Cert.KernelIdeal.τ Cert.KernelIdeal.sig) → Buf (Elt Ideal) l)
    (hpre : Cert.Pre_KernelIdeal m) (d : Dev Cert.KernelIdeal.nD) (i : Cert.MeanLoss.Places.Idx) :
    (Cert.KernelIdeal.Lookup.argT m d i).toNat < 32768 :=
  Cert.Pre_in_range.Lookup.index_lt _ _ _ (hpre d) i

/-- So does the kernel read at the extended reals. -/
theorem kernelIdeal_frame : Cert.quiescent_KernelIdeal := fun m g hpre =>
  (θ_run _ _ _).mono (fun _ h => ⟨fun c => ⟨(h.1 c).1, (h.1 c).2.1, (h.1 c).2.2.1⟩, h.2⟩)
    (Cert.KernelIdeal.Lookup.run_main m g fun d => Cert.KernelIdeal.Lookup.inRange_flat m d (index_lt m hpre d))

/-- The reference runs, keeps its arguments and has no semaphores to leave. -/
theorem reference_frame : Cert.quiescent_ReferenceIdeal := fun m g _ =>
  (θ_run _ _ _).mono (fun r h => ⟨fun c => (h c).2, sem_eq_zero_of_no_sems (by decide) r.2⟩)
    (Cert.ReferenceIdeal.Value.run m g)

/-- It does so in particular under the precondition. -/
theorem reference_frame_in_range : Cert.quiescent_ReferenceIdeal_pre_in_range := fun m g _ => reference_frame m g trivial

/-- From the same arguments, with every index in its row, kernel and reference end with the same mean loss. -/
theorem same_mean : Cert.algebraic_KernelIdeal_ReferenceIdeal := fun m g m' g' hpre hargs => by
  have ht := index_lt m hpre
  refine ⟨fun c => Cert.KernelIdeal.Lookup.lossVal m c,
    (θ_run _ _ _).mono (fun _ h c => ⟨(h.1 c).2.2.2, (h.1 c).1, (h.1 c).2.1, (h.1 c).2.2.1⟩)
      (Cert.KernelIdeal.Lookup.run_main m g fun d => Cert.KernelIdeal.Lookup.inRange_flat m d (ht d)),
    (θ_run _ _ _).mono (fun _ h c => ⟨(h c).1.trans ?_, (h c).2⟩)
      (Cert.ReferenceIdeal.Lookup.run_mean m' g' fun c i => ?_)⟩
  · rw [(hargs c).2.1]
    exact ht c i
  · refine Eq.trans ?_ (Cert.KernelIdeal.Lookup.lossVal_eq m c (ht c)).symm
    rw [(hargs c).1, (hargs c).2.1, (hargs c).2.2]
    rfl

/-- Everything the certificate claims. -/
theorem claim : Cert.Claim :=
  ⟨Cert.Kernel.Gen.facts, Cert.KernelIdeal.Gen.facts, Cert.ReferenceIdeal.Gen.facts, Cert.Pre_in_range.Gen.facts,
    kernel_frame, kernelIdeal_frame, reference_frame, reference_frame_in_range, trivial, same_mean⟩

end Cert.Proof

end
